-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x512x18944 : Shape := ⟨3, ![24, 512, 18944]⟩
abbrev S3584x9472 : Shape := ⟨2, ![3584, 9472]⟩
abbrev S3584x296 : Shape := ⟨2, ![3584, 296]⟩
abbrev S4144 : Shape := ⟨1, ![4144]⟩
abbrev S1 : Shape := ⟨1, ![1]⟩
abbrev S12288x18944 : Shape := ⟨2, ![12288, 18944]⟩
abbrev S296x3584 : Shape := ⟨2, ![296, 3584]⟩
abbrev S4144x256 : Shape := ⟨2, ![4144, 256]⟩
abbrev S1060864 : Shape := ⟨1, ![1060864]⟩
abbrev S18944x3584 : Shape := ⟨2, ![18944, 3584]⟩
abbrev S512x256 : Shape := ⟨2, ![512, 256]⟩
abbrev S8x512 : Shape := ⟨2, ![8, 512]⟩
abbrev S512x512 : Shape := ⟨2, ![512, 512]⟩
abbrev S128x128 : Shape := ⟨2, ![128, 128]⟩
abbrev S256x128 : Shape := ⟨2, ![256, 128]⟩
abbrev S1x128 : Shape := ⟨2, ![1, 128]⟩
abbrev S64x128 : Shape := ⟨2, ![64, 128]⟩
abbrev S12288x3584 : Shape := ⟨2, ![12288, 3584]⟩
abbrev S1024x512 : Shape := ⟨2, ![1024, 512]⟩
abbrev S512x1792 : Shape := ⟨2, ![512, 1792]⟩
abbrev S1024x1792 : Shape := ⟨2, ![1024, 1792]⟩
abbrev S24x512x3584 : Shape := ⟨3, ![24, 512, 3584]⟩

abbrev nBuf : Space → Nat
  | .hbm => 14
  | .vmem => 15
  | .smem => 1
  | _ => 0

abbrev bufTy : (tb : Table) → Fin (tcTables nBuf tb) → BufTy
  | .hbm, ⟨0, _⟩ => ⟨S24x512x18944, .bf16⟩
  | .hbm, ⟨1, _⟩ => ⟨S3584x9472, .i8⟩
  | .hbm, ⟨2, _⟩ => ⟨S3584x296, .i8⟩
  | .hbm, ⟨3, _⟩ => ⟨S4144, .f32⟩
  | .hbm, ⟨4, _⟩ => ⟨S1, .f32⟩
  | .hbm, ⟨5, _⟩ => ⟨S12288x18944, .bf16⟩
  | .hbm, ⟨6, _⟩ => ⟨S296x3584, .i8⟩
  | .hbm, ⟨7, _⟩ => ⟨S4144x256, .f32⟩
  | .hbm, ⟨8, _⟩ => ⟨S1060864, .f32⟩
  | .hbm, ⟨9, _⟩ => ⟨S3584x296, .f32⟩
  | .hbm, ⟨10, _⟩ => ⟨S296x3584, .f32⟩
  | .hbm, ⟨11, _⟩ => ⟨S18944x3584, .bf16⟩
  | .hbm, ⟨12, _⟩ => ⟨S12288x3584, .bf16⟩
  | .hbm, ⟨13, _⟩ => ⟨S24x512x3584, .bf16⟩
  | .local _ .vmem, ⟨0, _⟩ => ⟨S512x256, .i8⟩
  | .local _ .vmem, ⟨1, _⟩ => ⟨S512x256, .i8⟩
  | .local _ .vmem, ⟨2, _⟩ => ⟨S8x512, .i8⟩
  | .local _ .vmem, ⟨3, _⟩ => ⟨S8x512, .i8⟩
  | .local _ .vmem, ⟨4, _⟩ => ⟨S8x512, .f32⟩
  | .local _ .vmem, ⟨5, _⟩ => ⟨S8x512, .f32⟩
  | .local _ .vmem, ⟨6, _⟩ => ⟨S512x512, .bf16⟩
  | .local _ .vmem, ⟨7, _⟩ => ⟨S512x512, .bf16⟩
  | .local _ .vmem, ⟨8, _⟩ => ⟨S1024x512, .bf16⟩
  | .local _ .vmem, ⟨9, _⟩ => ⟨S1024x512, .bf16⟩
  | .local _ .vmem, ⟨10, _⟩ => ⟨S512x1792, .bf16⟩
  | .local _ .vmem, ⟨11, _⟩ => ⟨S512x1792, .bf16⟩
  | .local _ .vmem, ⟨12, _⟩ => ⟨S1024x1792, .bf16⟩
  | .local _ .vmem, ⟨13, _⟩ => ⟨S1024x1792, .bf16⟩
  | .local _ .vmem, ⟨14, _⟩ => ⟨S1024x1792, .f32⟩
  | .local _ .smem, ⟨0, _⟩ => ⟨S1, .f32⟩
  | _, _ => ⟨S24x512x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![37, 7], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![12, 2, 37], ![false, false, false]⟩

def k1_cond2 (i : grid1.Coords) : BitVec 1 :=
  let arg2 : BitVec 32 := BitVec.ofNat 32 (i 2).val
  let c36_i32 : BitVec 32 := 36#32
  let v13 : BitVec 1 := Scalar.cmpi .eq arg2 c36_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1792 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1792 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== ReferenceIdeal.lean ====
abbrev S24x512x18944 : Shape := ⟨3, ![24, 512, 18944]⟩
abbrev S3584x9472 : Shape := ⟨2, ![3584, 9472]⟩
abbrev S3584x296 : Shape := ⟨2, ![3584, 296]⟩
abbrev S4144 : Shape := ⟨1, ![4144]⟩
abbrev S1 : Shape := ⟨1, ![1]⟩
abbrev S4144x256 : Shape := ⟨2, ![4144, 256]⟩
abbrev S4144x1 : Shape := ⟨2, ![4144, 1]⟩
abbrev S_ : Shape := ⟨0, ![]⟩
abbrev S3584x9472x1 : Shape := ⟨3, ![3584, 9472, 1]⟩
abbrev S3584x9472x2 : Shape := ⟨3, ![3584, 9472, 2]⟩
abbrev S3584x18944 : Shape := ⟨2, ![3584, 18944]⟩
abbrev S3584x296x64 : Shape := ⟨3, ![3584, 296, 64]⟩
abbrev S3584x296x1 : Shape := ⟨3, ![3584, 296, 1]⟩
abbrev S24x512x3584 : Shape := ⟨3, ![24, 512, 3584]⟩

abbrev nBuf : Space → Nat
  | .hbm => 117
  | .vmem => 0
  | .smem => 0
  | _ => 0

abbrev bufTy : (tb : Table) → Fin (tcTables nBuf tb) → BufTy
  | .hbm, ⟨0, _⟩ => ⟨S24x512x18944, .bf16⟩
  | .hbm, ⟨1, _⟩ => ⟨S3584x9472, .i8⟩
  | .hbm, ⟨2, _⟩ => ⟨S3584x296, .i8⟩
  | .hbm, ⟨3, _⟩ => ⟨S4144, .f32⟩
  | .hbm, ⟨4, _⟩ => ⟨S1, .f32⟩
  | .hbm, ⟨5, _⟩ => ⟨S4144x256, .i8⟩
  | .hbm, ⟨6, _⟩ => ⟨S4144x256, .i32⟩
  | .hbm, ⟨7, _⟩ => ⟨S4144x256, .f32⟩
  | .hbm, ⟨8, _⟩ => ⟨S4144x1, .f32⟩
  | .hbm, ⟨9, _⟩ => ⟨S4144x256, .f32⟩
  | .hbm, ⟨10, _⟩ => ⟨S4144x256, .f32⟩
  | .hbm, ⟨11, _⟩ => ⟨S_, .f32⟩
  | .hbm, ⟨12, _⟩ => ⟨S4144x256, .f32⟩
  | .hbm, ⟨13, _⟩ => ⟨S4144x256, .f32⟩
  | .hbm, ⟨14, _⟩ => ⟨S3584x296, .f32⟩
  | .hbm, ⟨15, _⟩ => ⟨S3584x296, .bf16⟩
  | .hbm, ⟨16, _⟩ => ⟨S3584x9472, .i32⟩
  | .hbm, ⟨17, _⟩ => ⟨S_, .i32⟩
  | .hbm, ⟨18, _⟩ => ⟨S3584x9472, .i32⟩
  | .hbm, ⟨19, _⟩ => ⟨S3584x9472, .i32⟩
  | .hbm, ⟨20, _⟩ => ⟨S_, .i32⟩
  | .hbm, ⟨21, _⟩ => ⟨S3584x9472, .i32⟩
  | .hbm, ⟨22, _⟩ => ⟨S3584x9472, .i32⟩
  | .hbm, ⟨23, _⟩ => ⟨S3584x9472x1, .i32⟩
  | .hbm, ⟨24, _⟩ => ⟨S3584x9472x1, .i32⟩
  | .hbm, ⟨25, _⟩ => ⟨S3584x9472x2, .i32⟩
  | .hbm, ⟨26, _⟩ => ⟨S3584x18944, .i32⟩
  | .hbm, ⟨27, _⟩ => ⟨S_, .i32⟩
  | .hbm, ⟨28, _⟩ => ⟨S3584x18944, .i32⟩
  | .hbm, ⟨29, _⟩ => ⟨S3584x18944, .i32⟩
  | .hbm, ⟨30, _⟩ => ⟨S_, .i32⟩
  | .hbm, ⟨31, _⟩ => ⟨S3584x18944, .i32⟩
  | .hbm, ⟨32, _⟩ => ⟨S3584x18944, .i32⟩
  | .hbm, ⟨33, _⟩ => ⟨S_, .i32⟩
  | .hbm, ⟨34, _⟩ => ⟨S3584x18944, .i32⟩
  | .hbm, ⟨35, _⟩ => ⟨S3584x18944, .i1⟩
  | .hbm, ⟨36, _⟩ => ⟨S_, .i32⟩
  | .hbm, ⟨37, _⟩ => ⟨S3584x18944, .i32⟩
  | .hbm, ⟨38, _⟩ => ⟨S3584x18944, .i32⟩
  | .hbm, ⟨39, _⟩ => ⟨S_, .i32⟩
  | .hbm, ⟨40, _⟩ => ⟨S3584x18944, .i32⟩
  | .hbm, ⟨41, _⟩ => ⟨S3584x18944, .i32⟩
  | .hbm, ⟨42, _⟩ => ⟨S_, .i32⟩
  | .hbm, ⟨43, _⟩ => ⟨S3584x18944, .i32⟩
  | .hbm, ⟨44, _⟩ => ⟨S3584x18944, .i1⟩
  | .hbm, ⟨45, _⟩ => ⟨S_, .i32⟩
  | .hbm, ⟨46, _⟩ => ⟨S3584x18944, .i32⟩
  | .hbm, ⟨47, _⟩ => ⟨S3584x18944, .i32⟩
  | .hbm, ⟨48, _⟩ => ⟨S_, .i32⟩
  | .hbm, ⟨49, _⟩ => ⟨S3584x18944, .i32⟩
  | .hbm, ⟨50, _⟩ => ⟨S3584x18944, .i32⟩
  | .hbm, ⟨51, _⟩ => ⟨S_, .i32⟩
  | .hbm, ⟨52, _⟩ => ⟨S3584x18944, .i32⟩
  | .hbm, ⟨53, _⟩ => ⟨S3584x18944, .i1⟩
  | .hbm, ⟨54, _⟩ => ⟨S_, .i32⟩
  | .hbm, ⟨55, _⟩ => ⟨S3584x18944, .i32⟩
  | .hbm, ⟨56, _⟩ => ⟨S3584x18944, .i32⟩
  | .hbm, ⟨57, _⟩ => ⟨S_, .i32⟩
  | .hbm, ⟨58, _⟩ => ⟨S3584x18944, .i32⟩
  | .hbm, ⟨59, _⟩ => ⟨S3584x18944, .i32⟩
  | .hbm, ⟨60, _⟩ => ⟨S_, .i32⟩
  | .hbm, ⟨61, _⟩ => ⟨S3584x18944, .i32⟩
  | .hbm, ⟨62, _⟩ => ⟨S3584x18944, .i1⟩
  | .hbm, ⟨63, _⟩ => ⟨S_, .bf16⟩
  | .hbm, ⟨64, _⟩ => ⟨S_, .bf16⟩
  | .hbm, ⟨65, _⟩ => ⟨S3584x18944, .bf16⟩
  | .hbm, ⟨66, _⟩ => ⟨S3584x18944, .bf16⟩
  | .hbm, ⟨67, _⟩ => ⟨S3584x18944, .bf16⟩
  | .hbm, ⟨68, _⟩ => ⟨S_, .bf16⟩
  | .hbm, ⟨69, _⟩ => ⟨S_, .bf16⟩
  | .hbm, ⟨70, _⟩ => ⟨S3584x18944, .bf16⟩
  | .hbm, ⟨71, _⟩ => ⟨S3584x18944, .bf16⟩
  | .hbm, ⟨72, _⟩ => ⟨S3584x18944, .bf16⟩
  | .hbm, ⟨73, _⟩ => ⟨S3584x18944, .bf16⟩
  | .hbm, ⟨74, _⟩ => ⟨S_, .bf16⟩
  | .hbm, ⟨75, _⟩ => ⟨S_, .bf16⟩
  | .hbm, ⟨76, _⟩ => ⟨S3584x18944, .bf16⟩
  | .hbm, ⟨77, _⟩ => ⟨S3584x18944, .bf16⟩
  | .hbm, ⟨78, _⟩ => ⟨S3584x18944, .bf16⟩
  | .hbm, ⟨79, _⟩ => ⟨S_, .bf16⟩
  | .hbm, ⟨80, _⟩ => ⟨S_, .bf16⟩
  | .hbm, ⟨81, _⟩ => ⟨S3584x18944, .bf16⟩
  | .hbm, ⟨82, _⟩ => ⟨S3584x18944, .bf16⟩
  | .hbm, ⟨83, _⟩ => ⟨S3584x18944, .bf16⟩
  | .hbm, ⟨84, _⟩ => ⟨S3584x18944, .bf16⟩
  | .hbm, ⟨85, _⟩ => ⟨S3584x18944, .bf16⟩
  | .hbm, ⟨86, _⟩ => ⟨S_, .bf16⟩
  | .hbm, ⟨87, _⟩ => ⟨S_, .bf16⟩
  | .hbm, ⟨88, _⟩ => ⟨S3584x18944, .bf16⟩
  | .hbm, ⟨89, _⟩ => ⟨S3584x18944, .bf16⟩
  | .hbm, ⟨90, _⟩ => ⟨S3584x18944, .bf16⟩
  | .hbm, ⟨91, _⟩ => ⟨S_, .bf16⟩
  | .hbm, ⟨92, _⟩ => ⟨S_, .bf16⟩
  | .hbm, ⟨93, _⟩ => ⟨S3584x18944, .bf16⟩
  | .hbm, ⟨94, _⟩ => ⟨S3584x18944, .bf16⟩
  | .hbm, ⟨95, _⟩ => ⟨S3584x18944, .bf16⟩
  | .hbm, ⟨96, _⟩ => ⟨S3584x18944, .bf16⟩
  | .hbm, ⟨97, _⟩ => ⟨S_, .bf16⟩
  | .hbm, ⟨98, _⟩ => ⟨S_, .bf16⟩
  | .hbm, ⟨99, _⟩ => ⟨S3584x18944, .bf16⟩
  | .hbm, ⟨100, _⟩ => ⟨S3584x18944, .bf16⟩
  | .hbm, ⟨101, _⟩ => ⟨S3584x18944, .bf16⟩
  | .hbm, ⟨102, _⟩ => ⟨S_, .bf16⟩
  | .hbm, ⟨103, _⟩ => ⟨S_, .bf16⟩
  | .hbm, ⟨104, _⟩ => ⟨S3584x18944, .bf16⟩
  | .hbm, ⟨105, _⟩ => ⟨S3584x18944, .bf16⟩
  | .hbm, ⟨106, _⟩ => ⟨S3584x18944, .bf16⟩
  | .hbm, ⟨107, _⟩ => ⟨S3584x18944, .bf16⟩
  | .hbm, ⟨108, _⟩ => ⟨S3584x18944, .bf16⟩
  | .hbm, ⟨109, _⟩ => ⟨S3584x18944, .bf16⟩
  | .hbm, ⟨110, _⟩ => ⟨S3584x296x64, .bf16⟩
  | .hbm, ⟨111, _⟩ => ⟨S3584x296x1, .bf16⟩
  | .hbm, ⟨112, _⟩ => ⟨S3584x296x64, .bf16⟩
  | .hbm, ⟨113, _⟩ => ⟨S3584x296x64, .bf16⟩
  | .hbm, ⟨114, _⟩ => ⟨S3584x18944, .bf16⟩
  | .hbm, ⟨115, _⟩ => ⟨S24x512x3584, .f32⟩
  | .hbm, ⟨116, _⟩ => ⟨S24x512x3584, .bf16⟩
  | _, _ => ⟨S24x512x18944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_c_7 : Ref sig .tc := ⟨.hbm, 45, rfl⟩
abbrev main_v32 : Ref sig .tc := ⟨.hbm, 46, rfl⟩
abbrev main_v33 : Ref sig .tc := ⟨.hbm, 47, rfl⟩
abbrev main_c_8 : Ref sig .tc := ⟨.hbm, 48, rfl⟩
abbrev main_v34 : Ref sig .tc := ⟨.hbm, 49, rfl⟩
abbrev main_v35 : Ref sig .tc := ⟨.hbm, 50, rfl⟩
abbrev main_c_9 : Ref sig .tc := ⟨.hbm, 51, rfl⟩
abbrev main_v36 : Ref sig .tc := ⟨.hbm, 52, rfl⟩
abbrev main_v37 : Ref sig .tc := ⟨.hbm, 53, rfl⟩
abbrev main_c_10 : Ref sig .tc := ⟨.hbm, 54, rfl⟩
abbrev main_v38 : Ref sig .tc := ⟨.hbm, 55, rfl⟩
abbrev main_v39 : Ref sig .tc := ⟨.hbm, 56, rfl⟩
abbrev main_c_11 : Ref sig .tc := ⟨.hbm, 57, rfl⟩
abbrev main_v40 : Ref sig .tc := ⟨.hbm, 58, rfl⟩
abbrev main_v41 : Ref sig .tc := ⟨.hbm, 59, rfl⟩
abbrev main_c_12 : Ref sig .tc := ⟨.hbm, 60, rfl⟩
abbrev main_v42 : Ref sig .tc := ⟨.hbm, 61, rfl⟩
abbrev main_v43 : Ref sig .tc := ⟨.hbm, 62, rfl⟩
abbrev main_cst : Ref sig .tc := ⟨.hbm, 63, rfl⟩
abbrev main_cst_13 : Ref sig .tc := ⟨.hbm, 64, rfl⟩
abbrev main_call0_v0 : Ref sig .tc := ⟨.hbm, 65, rfl⟩
abbrev main_call0_v1 : Ref sig .tc := ⟨.hbm, 66, rfl⟩
abbrev main_v44 : Ref sig .tc := ⟨.hbm, 67, rfl⟩
abbrev main_cst_14 : Ref sig .tc := ⟨.hbm, 68, rfl⟩
abbrev main_cst_15 : Ref sig .tc := ⟨.hbm, 69, rfl⟩
abbrev main_call1_v0 : Ref sig .tc := ⟨.hbm, 70, rfl⟩
abbrev main_call1_v1 : Ref sig .tc := ⟨.hbm, 71, rfl⟩
abbrev main_v45 : Ref sig .tc := ⟨.hbm, 72, rfl⟩
abbrev main_v46 : Ref sig .tc := ⟨.hbm, 73, rfl⟩
abbrev main_cst_16 : Ref sig .tc := ⟨.hbm, 74, rfl⟩
abbrev main_cst_17 : Ref sig .tc := ⟨.hbm, 75, rfl⟩
abbrev main_call3_v0 : Ref sig .tc := ⟨.hbm, 76, rfl⟩
abbrev main_call3_v1 : Ref sig .tc := ⟨.hbm, 77, rfl⟩
abbrev main_v47 : Ref sig .tc := ⟨.hbm, 78, rfl⟩
abbrev main_cst_18 : Ref sig .tc := ⟨.hbm, 79, rfl⟩
abbrev main_cst_19 : Ref sig .tc := ⟨.hbm, 80, rfl⟩
abbrev main_call4_v0 : Ref sig .tc := ⟨.hbm, 81, rfl⟩
abbrev main_call4_v1 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_20 : Ref sig .tc := ⟨.hbm, 86, rfl⟩
abbrev main_cst_21 : Ref sig .tc := ⟨.hbm, 87, rfl⟩
abbrev main_call7_v0 : Ref sig .tc := ⟨.hbm, 88, rfl⟩
abbrev main_call7_v1 : Ref sig .tc := ⟨.hbm, 89, rfl⟩
abbrev main_v51 : Ref sig .tc := ⟨.hbm, 90, rfl⟩
abbrev main_cst_22 : Ref sig .tc := ⟨.hbm, 91, rfl⟩
abbrev main_cst_23 : Ref sig .tc := ⟨.hbm, 92, rfl⟩
abbrev main_call8_v0 : Ref sig .tc := ⟨.hbm, 93, rfl⟩
abbrev main_call8_v1 : Ref sig .tc := ⟨.hbm, 94, rfl⟩
abbrev main_v52 : Ref sig .tc := ⟨.hbm, 95, rfl⟩
abbrev main_v53 : Ref sig .tc := ⟨.hbm, 96, rfl⟩
abbrev main_cst_24 : Ref sig .tc := ⟨.hbm, 97, rfl⟩
abbrev main_cst_25 : Ref sig .tc := ⟨.hbm, 98, rfl⟩
abbrev main_call10_v0 : Ref sig .tc := ⟨.hbm, 99, rfl⟩
abbrev main_call10_v1 : Ref sig .tc := ⟨.hbm, 100, rfl⟩
abbrev main_v54 : Ref sig .tc := ⟨.hbm, 101, rfl⟩
abbrev main_cst_26 : Ref sig .tc := ⟨.hbm, 102, rfl⟩
abbrev main_cst_27 : Ref sig .tc := ⟨.hbm, 103, rfl⟩
abbrev main_call11_v0 : Ref sig .tc := ⟨.hbm, 104, rfl⟩
abbrev main_call11_v1 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩

abbrev nD : Nat := 1
abbrev τ : Topo := Topo.v7x

variable {F : FTy → Type} [FloatOps F]
-- ==== Proof.Kernel.Decode.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- rectangles of production extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 0 of @main: custom_call 0, `cc0_nf4_decode` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 4, through which its contents are stated (`View.read_writes_of_cover`: the
    choice does not matter). -/
abbrev VO0_4 : View sig .tc .vmem S512x512 .bf16 := (Memref.whole cc0_stg4_0 : Memref sig .tc .vmem S512x512 .bf16).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .smem S1 .f32) (harg2 : arg2.IsWhole) (arg3 : Memref sig .tc .vmem S512x256 .i8) (harg3 : arg3.IsWhole) (arg4 : Memref sig .tc .vmem S8x512 .i8) (harg4 : arg4.IsWhole) (arg5 : Memref sig .tc .vmem S8x512 .f32) (harg5 : arg5.IsWhole) (arg6 : Memref sig .tc .vmem S512x512 .bf16) (harg6 : arg6.IsWhole)
    (x0 : Vec F S1 .f32) (x1 : Vec F S512x256 .i8) (x2 : Vec F S8x512 .i8) (x3 : Vec F S8x512 .f32) :
    { L4 : List (View.Piece (Elt F) S512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0_nf4_decode i arg2 harg2 arg3 harg3 arg4 harg4 arg5 harg5 arg6 harg6) K } := by
  refine ⟨?_, fun E K => ?run⟩
  case run =>
    simp only [cc0_nf4_decode_eq_skeleton]; unfold cc0_nf4_decode_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-- The run's pieces for output 4 tile its block (32 stores of `S64x128`, checked by the kernel's evaluation: Lib/Ring.lean `Piece.tiledL`, linear in the pieces, through a loop's `@[irreducible]` trip theorem too), so they cover it. -/
theorem cover0_A_4 (c : Dev nD) (i : grid0.Coords) (arg2 : Memref sig .tc .smem S1 .f32) (harg2 : arg2.IsWhole) (arg3 : Memref sig .tc .vmem S512x256 .i8) (harg3 : arg3.IsWhole) (arg4 : Memref sig .tc .vmem S8x512 .i8) (harg4 : arg4.IsWhole) (arg5 : Memref sig .tc .vmem S8x512 .f32) (harg5 : arg5.IsWhole) (arg6 : Memref sig .tc .vmem S512x512 .bf16) (harg6 : arg6.IsWhole)
    (x0 : Vec F S1 .f32) (x1 : Vec F S512x256 .i8) (x2 : Vec F S8x512 .i8) (x3 : Vec F S8x512 .f32) (y : S512x512.Idx) :
    ∃ pc ∈ (kernelRun0_A c i arg2 harg2 arg3 harg3 arg4 harg4 arg5 harg5 arg6 harg6 x0 x1 x2 x3).1, y ∈ pc.1.set :=
  View.cover_of_tiledL (kernelRun0_A c i arg2 harg2 arg3 harg3 arg4 harg4 arg5 harg5 arg6 harg6 x0 x1 x2 x3).1 S64x128.size (by sl_kernel_rfl) y

/-- What the run leaves in output 4's staging buffer: its pieces read back over junk. -/
def out0_A_4 (c : Dev nD) (i : grid0.Coords) (arg2 : Memref sig .tc .smem S1 .f32) (harg2 : arg2.IsWhole) (arg3 : Memref sig .tc .vmem S512x256 .i8) (harg3 : arg3.IsWhole) (arg4 : Memref sig .tc .vmem S8x512 .i8) (harg4 : arg4.IsWhole) (arg5 : Memref sig .tc .vmem S8x512 .f32) (harg5 : arg5.IsWhole) (arg6 : Memref sig .tc .vmem S512x512 .bf16) (harg6 : arg6.IsWhole)
    (x0 : Vec F S1 .f32) (x1 : Vec F S512x256 .i8) (x2 : Vec F S8x512 .i8) (x3 : Vec F S8x512 .f32) : Vec F S512x512 .bf16 :=
  VO0_4.read (Elt F) (VO0_4.writes (Elt F) VO0_4.junk (kernelRun0_A c i arg2 harg2 arg3 harg3 arg4 harg4 arg5 harg5 arg6 harg6 x0 x1 x2 x3).1)

/-! ## What the outputs hold after each point -/

/-- What the outputs' staging buffers hold after the body at point `t`: the run's contents at
    the point's memrefs and input blocks. -/
def outsAt0 (c : Dev nD) (t : Fin cfg0.N) : Vec F S512x512 .bf16 :=
  out0_A_4 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t) (iblk0 V c 3 t)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  unfold outsAt0
  unfold out0_A_4
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk0 V c 0 t) (iblk0 V c 1 t) (iblk0 V c 2 t) (iblk0 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Hand

end
-- ==== Proof.Kernel.Matmul.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- rectangles of production extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 37) — by arithmetic of the point. -/
theorem hcond1_0 : ∀ t : Fin cfg1.N, cond1_0 (grid1.coords t) ↔ t.val % 37 = 0 :=
  (fun t => by
    have ht : t.val < 888 := Nat.lt_of_lt_of_eq t.isLt N_1
    have e0 : (grid1.coords t 0).val = t.val / 74 % 12 := Pipeline.Grid.coords_val t 0 (by decide) rfl
    have e1 : (grid1.coords t 1).val = t.val / 37 % 2 := Pipeline.Grid.coords_val t 1 (by decide) rfl
    have e2 : (grid1.coords t 2).val = t.val / 1 % 37 := Pipeline.Grid.coords_val t 2 (by decide) rfl
    simp only [cond1_0, e0, e1, e2]
    word_cmp
   : ∀ t : Fin grid1.N, cond1_0 (grid1.coords t) ↔ t.val % 37 = 0)

/-- The condition of the body's `scf.if` 1 (`k1_h2`), from the grid coordinates (the skeleton's scalar
    chain substituted). -/
abbrev cond1_1 (i : grid1.Coords) : Prop := k1_cond2 i = 1#1
/-- It holds at the points ≡ 36 (mod 37) — by arithmetic of the point. -/
theorem hcond1_1 : ∀ t : Fin cfg1.N, cond1_1 (grid1.coords t) ↔ t.val % 37 = 36 :=
  (fun t => by
    have ht : t.val < 888 := Nat.lt_of_lt_of_eq t.isLt N_1
    have e0 : (grid1.coords t 0).val = t.val / 74 % 12 := Pipeline.Grid.coords_val t 0 (by decide) rfl
    have e1 : (grid1.coords t 1).val = t.val / 37 % 2 := Pipeline.Grid.coords_val t 1 (by decide) rfl
    have e2 : (grid1.coords t 2).val = t.val / 1 % 37 := Pipeline.Grid.coords_val t 2 (by decide) rfl
    simp only [cond1_1, k1_cond2, e0, e1, e2]
    word_cmp
   : ∀ t : Fin grid1.N, cond1_1 (grid1.coords t) ↔ t.val % 37 = 36)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- At the points of case A the printed configuration (`Cfg.idle`) calls output 2 idle: the case stores nothing into it. -/
theorem idleAt1_2_A : ∀ t : Fin cfg1.N, cond1_0 (grid1.coords t) → ¬cond1_1 (grid1.coords t) → cfg1.idle 2 (grid1.coords t) = true := by decide +kernel
/-- At the points of case A the pipeline does not write output 2's block back. -/
theorem noFlush1_2_A : ∀ t : Fin cfg1.N, cond1_0 (grid1.coords t) → ¬cond1_1 (grid1.coords t) → (cfg1.win 2).flush t = false := by decide +kernel
/-- At the points of case B the printed configuration (`Cfg.idle`) calls output 2 idle: the case stores nothing into it. -/
theorem idleAt1_2_B : ∀ t : Fin cfg1.N, ¬cond1_0 (grid1.coords t) → ¬cond1_1 (grid1.coords t) → cfg1.idle 2 (grid1.coords t) = true := by decide +kernel
/-- At the points of case B the pipeline does not write output 2's block back. -/
theorem noFlush1_2_B : ∀ t : Fin cfg1.N, ¬cond1_0 (grid1.coords t) → ¬cond1_1 (grid1.coords t) → (cfg1.win 2).flush t = false := by decide +kernel
/-- At the points of case C the printed configuration (`Cfg.idle`) calls output 2 live: the case stores into it. -/
theorem liveAt1_2_C : ∀ t : Fin cfg1.N, ¬cond1_0 (grid1.coords t) → cond1_1 (grid1.coords t) → cfg1.idle 2 (grid1.coords t) = false := by decide +kernel

/-! ## The kernel body on any staging memrefs: a subtype the run finds -/

/-- One staging buffer of output window 2, through which its contents are stated (`View.read_writes_of_cover`: the
    choice does not matter). -/
abbrev VO1_2 : View sig .tc .vmem S1024x1792 .bf16 := (Memref.whole cc1_stg2_0 : Memref sig .tc .vmem S1024x1792 .bf16).view
/-- Each window's current staging memref at point `t`, spelled as the pipeline passes it (`bodyAt1`), and its wholeness. -/
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1792 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1792 .bf16 := win1_2.stage (cfg1.slots t 2)
abbrev hs1_2 (t : Fin cfg1.N) : (ms1_2 t).IsWhole := hstage1_2 ((cfg1.slots t 2).cast nbuf1_2)
/-- The scratch operands: whole scoped buffers of the kernel's own, passed beside the windows. -/
abbrev scM1_0 : Memref sig .tc .vmem S1024x1792 .f32 := Memref.whole cc1_scratch0
/-- The scratch `arg6` the kernel carries between points, as a view: what it holds is stated through it. -/
abbrev VS1_0 : View sig .tc .vmem S1024x1792 .f32 := scM1_0.view

/-- The decode region's staging buffers, each at some contents: they ride through the matmul region untouched. -/
def others (c : Dev nD) : sProp 𝕄 :=
  iprop((∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg0_0), ((c : Thread nD τ).loc cc0_stg0_0) ↦{fullShare} f))

/-- The region's invariant with the scratch operand as a memref owned at some contents, the other region's staging
    buffers beside it, and the generator register. -/
theorem PhiA1_eq (c : Dev nD) :
    (Pipeline.ΦA spec1 c : sProp 𝕄)
      = iprop(iprop((∃ d, owns (c : Thread nD τ) scM1_0 fullShare d) ∗ others c) ∗ (∃ r, prngReg c r)) := by
  unfold Pipeline.ΦA; rw [scopedRest1_eq]; unfold others; simp only [scM1_0, owns_whole]
  refine equiv_iff.mp ⟨(?_ : (_ : sProp 𝕄) ⊢ _), (?_ : (_ : sProp 𝕄) ⊢ _)⟩
  · iintro ⟨⟨H1, H2, H3, H4, H5, H6, H7, H8, HS, H9⟩, Hg⟩
    isplitr [Hg]
    · isplitl [HS]; · iexact HS
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    iexact Hg
  · iintro ⟨⟨HS, H1, H2, H3, H4, H5, H6, H7, H8, H9⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iexact H9
    iexact Hg

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 37, … 851: 24 of 888), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg3 : Memref sig .tc .vmem S1024x512 .bf16) (harg3 : arg3.IsWhole) (arg4 : Memref sig .tc .vmem S512x1792 .bf16) (harg4 : arg4.IsWhole) (arg5 : Memref sig .tc .vmem S1024x1792 .bf16) (harg5 : arg5.IsWhole) (arg6 : Memref sig .tc .vmem S1024x1792 .f32) (harg6 : arg6.IsWhole) (hc0 : cond1_0 i) (hc1 : ¬cond1_1 i)
    (x0 : Vec F S1024x512 .bf16) (x1 : Vec F S512x1792 .bf16) :
    Σ' (L2 : List (View.Piece (Elt F) S1024x1792 .bf16)), { LS0 : List (View.Piece (Elt F) S1024x1792 .f32) //
      ∀ (xi2 : Vec F S1024x1792 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1_dx_matmul i arg3 harg3 arg4 harg4 arg5 harg5 arg6 harg6) K } := by
  refine ⟨[], ?_, fun xi2 E K => ?run⟩
  case run =>
    simp only [cc1_dx_matmul_eq_skeleton]; unfold cc1_dx_matmul_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 886: 840 of 888), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg3 : Memref sig .tc .vmem S1024x512 .bf16) (harg3 : arg3.IsWhole) (arg4 : Memref sig .tc .vmem S512x1792 .bf16) (harg4 : arg4.IsWhole) (arg5 : Memref sig .tc .vmem S1024x1792 .bf16) (harg5 : arg5.IsWhole) (arg6 : Memref sig .tc .vmem S1024x1792 .f32) (harg6 : arg6.IsWhole) (hc0 : ¬cond1_0 i) (hc1 : ¬cond1_1 i)
    (x0 : Vec F S1024x512 .bf16) (x1 : Vec F S512x1792 .bf16) (xs0 : Vec F S1024x1792 .f32) :
    Σ' (L2 : List (View.Piece (Elt F) S1024x1792 .bf16)), { LS0 : List (View.Piece (Elt F) S1024x1792 .f32) //
      ∀ (xi2 : Vec F S1024x1792 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1_dx_matmul i arg3 harg3 arg4 harg4 arg5 harg5 arg6 harg6) K } := by
  refine ⟨[], ?_, fun xi2 E K => ?run⟩
  case run =>
    simp only [cc1_dx_matmul_eq_skeleton]; unfold cc1_dx_matmul_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken: points 36, 73, … 887: 24 of 888), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg3 : Memref sig .tc .vmem S1024x512 .bf16) (harg3 : arg3.IsWhole) (arg4 : Memref sig .tc .vmem S512x1792 .bf16) (harg4 : arg4.IsWhole) (arg5 : Memref sig .tc .vmem S1024x1792 .bf16) (harg5 : arg5.IsWhole) (arg6 : Memref sig .tc .vmem S1024x1792 .f32) (harg6 : arg6.IsWhole) (hc0 : ¬cond1_0 i) (hc1 : cond1_1 i)
    (x0 : Vec F S1024x512 .bf16) (x1 : Vec F S512x1792 .bf16) (xs0 : Vec F S1024x1792 .f32) :
    Σ' (L2 : List (View.Piece (Elt F) S1024x1792 .bf16)), { LS0 : List (View.Piece (Elt F) S1024x1792 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1_dx_matmul i arg3 harg3 arg4 harg4 arg5 harg5 arg6 harg6) K } := by
  refine ⟨?_, ?_, fun E K => ?run⟩
  case run =>
    simp only [cc1_dx_matmul_eq_skeleton]; unfold cc1_dx_matmul_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-- Case A stores nothing into output 2 (the window is idle at its points and not written back there):
    no pieces — a placeholder (junk read back) that nothing consults, since at these points the window is neither
    written back nor read at the next point (Lib/Pipeline.lean "Idle points"). -/
def out1_A_2 (c : Dev nD) (i : grid1.Coords) (arg3 : Memref sig .tc .vmem S1024x512 .bf16) (harg3 : arg3.IsWhole) (arg4 : Memref sig .tc .vmem S512x1792 .bf16) (harg4 : arg4.IsWhole) (arg5 : Memref sig .tc .vmem S1024x1792 .bf16) (harg5 : arg5.IsWhole) (arg6 : Memref sig .tc .vmem S1024x1792 .f32) (harg6 : arg6.IsWhole) (hc0 : cond1_0 i) (hc1 : ¬cond1_1 i)
    (x0 : Vec F S1024x512 .bf16) (x1 : Vec F S512x1792 .bf16) : Vec F S1024x1792 .bf16 :=
  VO1_2.read (Elt F) (VO1_2.writes (Elt F) VO1_2.junk (kernelRun1_A c i arg3 harg3 arg4 harg4 arg5 harg5 arg6 harg6 hc0 hc1 x0 x1).1)

/-- Case A's pieces for scratch `arg6`, which the kernel carries between points, cover it: 2 pieces of `S1024x1792` tiling it (Lib/Ring.lean `Piece.tiledL`). -/
theorem scover1_A_0 (c : Dev nD) (i : grid1.Coords) (arg3 : Memref sig .tc .vmem S1024x512 .bf16) (harg3 : arg3.IsWhole) (arg4 : Memref sig .tc .vmem S512x1792 .bf16) (harg4 : arg4.IsWhole) (arg5 : Memref sig .tc .vmem S1024x1792 .bf16) (harg5 : arg5.IsWhole) (arg6 : Memref sig .tc .vmem S1024x1792 .f32) (harg6 : arg6.IsWhole) (hc0 : cond1_0 i) (hc1 : ¬cond1_1 i)
    (x0 : Vec F S1024x512 .bf16) (x1 : Vec F S512x1792 .bf16) (y : S1024x1792.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x1792.size (by sl_kernel_rfl) y

/-- What case A leaves in scratch `arg6`: its pieces read back over junk. -/
def sout1_A_0 (c : Dev nD) (i : grid1.Coords) (arg3 : Memref sig .tc .vmem S1024x512 .bf16) (harg3 : arg3.IsWhole) (arg4 : Memref sig .tc .vmem S512x1792 .bf16) (harg4 : arg4.IsWhole) (arg5 : Memref sig .tc .vmem S1024x1792 .bf16) (harg5 : arg5.IsWhole) (arg6 : Memref sig .tc .vmem S1024x1792 .f32) (harg6 : arg6.IsWhole) (hc0 : cond1_0 i) (hc1 : ¬cond1_1 i)
    (x0 : Vec F S1024x512 .bf16) (x1 : Vec F S512x1792 .bf16) : Vec F S1024x1792 .f32 :=
  VS1_0.read (Elt F) (VS1_0.writes (Elt F) VS1_0.junk (kernelRun1_A c i arg3 harg3 arg4 harg4 arg5 harg5 arg6 harg6 hc0 hc1 x0 x1).2.1)

/-- Case B stores nothing into output 2 (the window is idle at its points and not written back there):
    no pieces — a placeholder (junk read back) that nothing consults, since at these points the window is neither
    written back nor read at the next point (Lib/Pipeline.lean "Idle points"). -/
def out1_B_2 (c : Dev nD) (i : grid1.Coords) (arg3 : Memref sig .tc .vmem S1024x512 .bf16) (harg3 : arg3.IsWhole) (arg4 : Memref sig .tc .vmem S512x1792 .bf16) (harg4 : arg4.IsWhole) (arg5 : Memref sig .tc .vmem S1024x1792 .bf16) (harg5 : arg5.IsWhole) (arg6 : Memref sig .tc .vmem S1024x1792 .f32) (harg6 : arg6.IsWhole) (hc0 : ¬cond1_0 i) (hc1 : ¬cond1_1 i)
    (x0 : Vec F S1024x512 .bf16) (x1 : Vec F S512x1792 .bf16) (xs0 : Vec F S1024x1792 .f32) : Vec F S1024x1792 .bf16 :=
  VO1_2.read (Elt F) (VO1_2.writes (Elt F) VO1_2.junk (kernelRun1_B c i arg3 harg3 arg4 harg4 arg5 harg5 arg6 harg6 hc0 hc1 x0 x1 xs0).1)

/-- Case B's pieces for scratch `arg6`, which the kernel carries between points, cover it: 1 piece of `S1024x1792` tiling it (Lib/Ring.lean `Piece.tiledL`). -/
theorem scover1_B_0 (c : Dev nD) (i : grid1.Coords) (arg3 : Memref sig .tc .vmem S1024x512 .bf16) (harg3 : arg3.IsWhole) (arg4 : Memref sig .tc .vmem S512x1792 .bf16) (harg4 : arg4.IsWhole) (arg5 : Memref sig .tc .vmem S1024x1792 .bf16) (harg5 : arg5.IsWhole) (arg6 : Memref sig .tc .vmem S1024x1792 .f32) (harg6 : arg6.IsWhole) (hc0 : ¬cond1_0 i) (hc1 : ¬cond1_1 i)
    (x0 : Vec F S1024x512 .bf16) (x1 : Vec F S512x1792 .bf16) (xs0 : Vec F S1024x1792 .f32) (y : S1024x1792.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x1792.size (by sl_kernel_rfl) y

/-- What case B leaves in scratch `arg6`: its pieces read back over junk. -/
def sout1_B_0 (c : Dev nD) (i : grid1.Coords) (arg3 : Memref sig .tc .vmem S1024x512 .bf16) (harg3 : arg3.IsWhole) (arg4 : Memref sig .tc .vmem S512x1792 .bf16) (harg4 : arg4.IsWhole) (arg5 : Memref sig .tc .vmem S1024x1792 .bf16) (harg5 : arg5.IsWhole) (arg6 : Memref sig .tc .vmem S1024x1792 .f32) (harg6 : arg6.IsWhole) (hc0 : ¬cond1_0 i) (hc1 : ¬cond1_1 i)
    (x0 : Vec F S1024x512 .bf16) (x1 : Vec F S512x1792 .bf16) (xs0 : Vec F S1024x1792 .f32) : Vec F S1024x1792 .f32 :=
  VS1_0.read (Elt F) (VS1_0.writes (Elt F) VS1_0.junk (kernelRun1_B c i arg3 harg3 arg4 harg4 arg5 harg5 arg6 harg6 hc0 hc1 x0 x1 xs0).2.1)

/-- Case C's pieces for output 2 tile its block (1 store of `S1024x1792`, checked by the kernel's evaluation: Lib/Ring.lean `Piece.tiledL`, linear in the pieces, through a loop's `@[irreducible]` trip theorem too), so they cover it. -/
theorem cover1_C_2 (c : Dev nD) (i : grid1.Coords) (arg3 : Memref sig .tc .vmem S1024x512 .bf16) (harg3 : arg3.IsWhole) (arg4 : Memref sig .tc .vmem S512x1792 .bf16) (harg4 : arg4.IsWhole) (arg5 : Memref sig .tc .vmem S1024x1792 .bf16) (harg5 : arg5.IsWhole) (arg6 : Memref sig .tc .vmem S1024x1792 .f32) (harg6 : arg6.IsWhole) (hc0 : ¬cond1_0 i) (hc1 : cond1_1 i)
    (x0 : Vec F S1024x512 .bf16) (x1 : Vec F S512x1792 .bf16) (xs0 : Vec F S1024x1792 .f32) (y : S1024x1792.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1024x1792.size (by sl_kernel_rfl) y

/-- What case C leaves in output 2's staging buffer: its pieces read back over junk. -/
def out1_C_2 (c : Dev nD) (i : grid1.Coords) (arg3 : Memref sig .tc .vmem S1024x512 .bf16) (harg3 : arg3.IsWhole) (arg4 : Memref sig .tc .vmem S512x1792 .bf16) (harg4 : arg4.IsWhole) (arg5 : Memref sig .tc .vmem S1024x1792 .bf16) (harg5 : arg5.IsWhole) (arg6 : Memref sig .tc .vmem S1024x1792 .f32) (harg6 : arg6.IsWhole) (hc0 : ¬cond1_0 i) (hc1 : cond1_1 i)
    (x0 : Vec F S1024x512 .bf16) (x1 : Vec F S512x1792 .bf16) (xs0 : Vec F S1024x1792 .f32) : Vec F S1024x1792 .bf16 :=
  VO1_2.read (Elt F) (VO1_2.writes (Elt F) VO1_2.junk (kernelRun1_C c i arg3 harg3 arg4 harg4 arg5 harg5 arg6 harg6 hc0 hc1 x0 x1 xs0).1)

/-- Case C's pieces for scratch `arg6`, which the kernel carries between points, cover it: 1 piece of `S1024x1792` tiling it (Lib/Ring.lean `Piece.tiledL`). -/
theorem scover1_C_0 (c : Dev nD) (i : grid1.Coords) (arg3 : Memref sig .tc .vmem S1024x512 .bf16) (harg3 : arg3.IsWhole) (arg4 : Memref sig .tc .vmem S512x1792 .bf16) (harg4 : arg4.IsWhole) (arg5 : Memref sig .tc .vmem S1024x1792 .bf16) (harg5 : arg5.IsWhole) (arg6 : Memref sig .tc .vmem S1024x1792 .f32) (harg6 : arg6.IsWhole) (hc0 : ¬cond1_0 i) (hc1 : cond1_1 i)
    (x0 : Vec F S1024x512 .bf16) (x1 : Vec F S512x1792 .bf16) (xs0 : Vec F S1024x1792 .f32) (y : S1024x1792.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x1792.size (by sl_kernel_rfl) y

/-- What case C leaves in scratch `arg6`: its pieces read back over junk. -/
def sout1_C_0 (c : Dev nD) (i : grid1.Coords) (arg3 : Memref sig .tc .vmem S1024x512 .bf16) (harg3 : arg3.IsWhole) (arg4 : Memref sig .tc .vmem S512x1792 .bf16) (harg4 : arg4.IsWhole) (arg5 : Memref sig .tc .vmem S1024x1792 .bf16) (harg5 : arg5.IsWhole) (arg6 : Memref sig .tc .vmem S1024x1792 .f32) (harg6 : arg6.IsWhole) (hc0 : ¬cond1_0 i) (hc1 : cond1_1 i)
    (x0 : Vec F S1024x512 .bf16) (x1 : Vec F S512x1792 .bf16) (xs0 : Vec F S1024x1792 .f32) : Vec F S1024x1792 .f32 :=
  VS1_0.read (Elt F) (VS1_0.writes (Elt F) VS1_0.junk (kernelRun1_C c i arg3 harg3 arg4 harg4 arg5 harg5 arg6 harg6 hc0 hc1 x0 x1 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt1 (c : Dev nD) : (n : ℕ) → n < cfg1.N → Vec F S1024x1792 .bf16 × Vec F S1024x1792 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 37 = 0 then
      if h1 : (n + 1) % 37 = 36 then
        False.elim (by have hN : n + 1 < 888 := lt_of_lt_of_eq hn (show cfg1.N = 888 from N_1); omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 37 = 36 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point of case A: that case's contents. -/
theorem outsAt1_A (c : Dev nD) (t : Fin cfg1.N) (h0 : t.val % 37 = 0) (h1 : ¬t.val % 37 = 36) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 37 = 0) (h1 : ¬t.val % 37 = 36) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 37 = 0) (h1 : t.val % 37 = 36) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop((owns (c : Thread nD τ) scM1_0 fullShare ((outsAt1 V c n hn).2)) ∗ others c) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop((owns (c : Thread nD τ) scM1_0 fullShare ((outsAt1 V c n hn).2)) ∗ others c) ∗ (∃ r, prngReg c r)) := rfl

/-- Before a point that is not the first: the carried scratch at what the point before left. -/
theorem PhiS_pos (c : Dev nD) (n : ℕ) (h : n ≤ cfg1.N) (hz : n ≠ 0) :
    PhiS V c n h = iprop(iprop((owns (c : Thread nD τ) scM1_0 fullShare ((outsAt1 V c (n - 1) (by omega)).2)) ∗ others c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 888 := lt_of_lt_of_eq t.isLt (show cfg1.N = 888 from N_1)
  by_cases h0 : t.val % 37 = 0
  · by_cases h1 : t.val % 37 = 36
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      by_cases hz : t.val = 0
      · rw [PhiS_castSucc V c t, PhiS_zero V c _ _ hz, PhiA1_eq]
        rw [outsAt1_A V c t h0 h1]
        unfold sout1_A_0; (try dsimp only)
        iintro ⟨⟨⟨HS0, Hoth⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _)
            iexact Hoth
          iexact Hg
        isplitl [Ho]; · iexact Ho
        isplitl [H0]; · iexact H0
        isplitl [H1]; · iexact H1
        iexists _; iexact H2
      · rw [PhiS_castSucc V c t, PhiS_pos V c _ _ hz]
        rw [outsAt1_A V c t h0 h1]
        unfold sout1_A_0; (try dsimp only)
        iintro ⟨⟨⟨HS0, Hoth⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _)
            iexact Hoth
          iexact Hg
        isplitl [Ho]; · iexact Ho
        isplitl [H0]; · iexact H0
        isplitl [H1]; · iexact H1
        iexists _; iexact H2
  · by_cases h1 : t.val % 37 = 36
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2_C t (fun h => h0 ((hcond1_0 t).mp h)) ((hcond1_1 t).mpr h1)], after1_2]
      by_cases hz : t.val = 0
      · exfalso; have hN : t.val < 888 := lt_of_lt_of_eq t.isLt (show cfg1.N = 888 from N_1); omega
      · rw [PhiS_castSucc V c t, PhiS_pos V c _ _ hz]
        rw [outsAt1_C V c t h0 h1]
        unfold out1_C_2 sout1_C_0; (try dsimp only)
        iintro ⟨⟨⟨HS0, Hoth⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_C_0 c _ _ _ _ _ _ _ _ _ _ _ _ _ _)
            iexact Hoth
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      by_cases hz : t.val = 0
      · exfalso; have hN : t.val < 888 := lt_of_lt_of_eq t.isLt (show cfg1.N = 888 from N_1); omega
      · rw [PhiS_castSucc V c t, PhiS_pos V c _ _ hz]
        rw [outsAt1_B V c t h0 h1]
        unfold sout1_B_0; (try dsimp only)
        iintro ⟨⟨⟨HS0, Hoth⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_B_0 c _ _ _ _ _ _ _ _ _ _ _ _ _ _)
            iexact Hoth
          iexact Hg
        isplitl [Ho]; · iexact Ho
        isplitl [H0]; · iexact H0
        isplitl [H1]; · iexact H1
        iexists _; iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, Hoth⟩, Hg⟩
  isplitl [HS0 Hoth]
  · isplitl [HS0]
    · iexists _; iexact HS0
    iexact Hoth
  iexact Hg

/-- The same after the last point. -/
theorem hout (c : Dev nD) : (dat1 V c).Φ (Fin.last cfg1.N) ⊢ Pipeline.ΦA spec1 c :=
  Phi_out V c _ (by rw [Fin.val_last]; have : cfg1.N = 888 := N_1; omega)

end Cert.Kernel.Hand

end
-- ==== Proof.Kernel.Run.lean ====
module

public import proofs.«01_k».proof.Proof.Kernel.Decode
public import proofs.«01_k».proof.Proof.Kernel.Matmul

@[expose] public section

-- rectangles of production extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v8]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIClass.entails_trans ?_ (Hand.hin (V2 m ρ) c)
    unfold Pipeline.ΦA
    iintro ⟨Hp, -, Hr⟩
    isplitl [Hr]; · iexact Hr
    iexact Hp
  hout c := by
    rw [Pipeline.ownSems0_none]
    refine BIClass.entails_trans (Hand.hout (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN, at any `F`: from any memory with zero counters, every weakly fair execution of @main on the TensorCores
    terminates, nothing faulting; every final state has every unscoped buffer at the last boundary's contents `W4` and
    every semaphore counter of the machine at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- THE FRAME: the argument arrays end as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c)⟩, h.2⟩) (run_all m ρ)

end Cert.Kernel.Hand

end
-- ==== Proof.KernelIdeal.Decode.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- rectangles of production extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 0 of @main: custom_call 0, `cc0_nf4_decode` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 4, through which its contents are stated (`View.read_writes_of_cover`: the
    choice does not matter). -/
abbrev VO0_4 : View sig .tc .vmem S512x512 .bf16 := (Memref.whole cc0_stg4_0 : Memref sig .tc .vmem S512x512 .bf16).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .smem S1 .f32) (harg2 : arg2.IsWhole) (arg3 : Memref sig .tc .vmem S512x256 .i8) (harg3 : arg3.IsWhole) (arg4 : Memref sig .tc .vmem S8x512 .i8) (harg4 : arg4.IsWhole) (arg5 : Memref sig .tc .vmem S8x512 .f32) (harg5 : arg5.IsWhole) (arg6 : Memref sig .tc .vmem S512x512 .bf16) (harg6 : arg6.IsWhole)
    (x0 : Vec F S1 .f32) (x1 : Vec F S512x256 .i8) (x2 : Vec F S8x512 .i8) (x3 : Vec F S8x512 .f32) :
    { L4 : List (View.Piece (Elt F) S512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0_nf4_decode i arg2 harg2 arg3 harg3 arg4 harg4 arg5 harg5 arg6 harg6) K } := by
  refine ⟨?_, fun E K => ?run⟩
  case run =>
    simp only [cc0_nf4_decode_eq_skeleton]; unfold cc0_nf4_decode_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-- The run's pieces for output 4 tile its block (32 stores of `S64x128`, checked by the kernel's evaluation: Lib/Ring.lean `Piece.tiledL`, linear in the pieces, through a loop's `@[irreducible]` trip theorem too), so they cover it. -/
theorem cover0_A_4 (c : Dev nD) (i : grid0.Coords) (arg2 : Memref sig .tc .smem S1 .f32) (harg2 : arg2.IsWhole) (arg3 : Memref sig .tc .vmem S512x256 .i8) (harg3 : arg3.IsWhole) (arg4 : Memref sig .tc .vmem S8x512 .i8) (harg4 : arg4.IsWhole) (arg5 : Memref sig .tc .vmem S8x512 .f32) (harg5 : arg5.IsWhole) (arg6 : Memref sig .tc .vmem S512x512 .bf16) (harg6 : arg6.IsWhole)
    (x0 : Vec F S1 .f32) (x1 : Vec F S512x256 .i8) (x2 : Vec F S8x512 .i8) (x3 : Vec F S8x512 .f32) (y : S512x512.Idx) :
    ∃ pc ∈ (kernelRun0_A c i arg2 harg2 arg3 harg3 arg4 harg4 arg5 harg5 arg6 harg6 x0 x1 x2 x3).1, y ∈ pc.1.set :=
  View.cover_of_tiledL (kernelRun0_A c i arg2 harg2 arg3 harg3 arg4 harg4 arg5 harg5 arg6 harg6 x0 x1 x2 x3).1 S64x128.size (by sl_kernel_rfl) y

/-- What the run leaves in output 4's staging buffer: its pieces read back over junk. -/
def out0_A_4 (c : Dev nD) (i : grid0.Coords) (arg2 : Memref sig .tc .smem S1 .f32) (harg2 : arg2.IsWhole) (arg3 : Memref sig .tc .vmem S512x256 .i8) (harg3 : arg3.IsWhole) (arg4 : Memref sig .tc .vmem S8x512 .i8) (harg4 : arg4.IsWhole) (arg5 : Memref sig .tc .vmem S8x512 .f32) (harg5 : arg5.IsWhole) (arg6 : Memref sig .tc .vmem S512x512 .bf16) (harg6 : arg6.IsWhole)
    (x0 : Vec F S1 .f32) (x1 : Vec F S512x256 .i8) (x2 : Vec F S8x512 .i8) (x3 : Vec F S8x512 .f32) : Vec F S512x512 .bf16 :=
  VO0_4.read (Elt F) (VO0_4.writes (Elt F) VO0_4.junk (kernelRun0_A c i arg2 harg2 arg3 harg3 arg4 harg4 arg5 harg5 arg6 harg6 x0 x1 x2 x3).1)

/-! ## What the outputs hold after each point -/

/-- What the outputs' staging buffers hold after the body at point `t`: the run's contents at
    the point's memrefs and input blocks. -/
def outsAt0 (c : Dev nD) (t : Fin cfg0.N) : Vec F S512x512 .bf16 :=
  out0_A_4 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t) (iblk0 V c 3 t)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  unfold outsAt0
  unfold out0_A_4
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk0 V c 0 t) (iblk0 V c 1 t) (iblk0 V c 2 t) (iblk0 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.KernelIdeal.Matmul.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- rectangles of production extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 37) — by arithmetic of the point. -/
theorem hcond1_0 : ∀ t : Fin cfg1.N, cond1_0 (grid1.coords t) ↔ t.val % 37 = 0 :=
  (fun t => by
    have ht : t.val < 888 := Nat.lt_of_lt_of_eq t.isLt N_1
    have e0 : (grid1.coords t 0).val = t.val / 74 % 12 := Pipeline.Grid.coords_val t 0 (by decide) rfl
    have e1 : (grid1.coords t 1).val = t.val / 37 % 2 := Pipeline.Grid.coords_val t 1 (by decide) rfl
    have e2 : (grid1.coords t 2).val = t.val / 1 % 37 := Pipeline.Grid.coords_val t 2 (by decide) rfl
    simp only [cond1_0, e0, e1, e2]
    word_cmp
   : ∀ t : Fin grid1.N, cond1_0 (grid1.coords t) ↔ t.val % 37 = 0)

/-- The condition of the body's `scf.if` 1 (`k1_h2`), from the grid coordinates (the skeleton's scalar
    chain substituted). -/
abbrev cond1_1 (i : grid1.Coords) : Prop := k1_cond2 i = 1#1
/-- It holds at the points ≡ 36 (mod 37) — by arithmetic of the point. -/
theorem hcond1_1 : ∀ t : Fin cfg1.N, cond1_1 (grid1.coords t) ↔ t.val % 37 = 36 :=
  (fun t => by
    have ht : t.val < 888 := Nat.lt_of_lt_of_eq t.isLt N_1
    have e0 : (grid1.coords t 0).val = t.val / 74 % 12 := Pipeline.Grid.coords_val t 0 (by decide) rfl
    have e1 : (grid1.coords t 1).val = t.val / 37 % 2 := Pipeline.Grid.coords_val t 1 (by decide) rfl
    have e2 : (grid1.coords t 2).val = t.val / 1 % 37 := Pipeline.Grid.coords_val t 2 (by decide) rfl
    simp only [cond1_1, k1_cond2, e0, e1, e2]
    word_cmp
   : ∀ t : Fin grid1.N, cond1_1 (grid1.coords t) ↔ t.val % 37 = 36)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- At the points of case A the printed configuration (`Cfg.idle`) calls output 2 idle: the case stores nothing into it. -/
theorem idleAt1_2_A : ∀ t : Fin cfg1.N, cond1_0 (grid1.coords t) → ¬cond1_1 (grid1.coords t) → cfg1.idle 2 (grid1.coords t) = true := by decide +kernel
/-- At the points of case A the pipeline does not write output 2's block back. -/
theorem noFlush1_2_A : ∀ t : Fin cfg1.N, cond1_0 (grid1.coords t) → ¬cond1_1 (grid1.coords t) → (cfg1.win 2).flush t = false := by decide +kernel
/-- At the points of case B the printed configuration (`Cfg.idle`) calls output 2 idle: the case stores nothing into it. -/
theorem idleAt1_2_B : ∀ t : Fin cfg1.N, ¬cond1_0 (grid1.coords t) → ¬cond1_1 (grid1.coords t) → cfg1.idle 2 (grid1.coords t) = true := by decide +kernel
/-- At the points of case B the pipeline does not write output 2's block back. -/
theorem noFlush1_2_B : ∀ t : Fin cfg1.N, ¬cond1_0 (grid1.coords t) → ¬cond1_1 (grid1.coords t) → (cfg1.win 2).flush t = false := by decide +kernel
/-- At the points of case C the printed configuration (`Cfg.idle`) calls output 2 live: the case stores into it. -/
theorem liveAt1_2_C : ∀ t : Fin cfg1.N, ¬cond1_0 (grid1.coords t) → cond1_1 (grid1.coords t) → cfg1.idle 2 (grid1.coords t) = false := by decide +kernel

/-! ## The kernel body on any staging memrefs: a subtype the run finds -/

/-- One staging buffer of output window 2, through which its contents are stated (`View.read_writes_of_cover`: the
    choice does not matter). -/
abbrev VO1_2 : View sig .tc .vmem S1024x1792 .bf16 := (Memref.whole cc1_stg2_0 : Memref sig .tc .vmem S1024x1792 .bf16).view
/-- Each window's current staging memref at point `t`, spelled as the pipeline passes it (`bodyAt1`), and its wholeness. -/
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1792 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1792 .bf16 := win1_2.stage (cfg1.slots t 2)
abbrev hs1_2 (t : Fin cfg1.N) : (ms1_2 t).IsWhole := hstage1_2 ((cfg1.slots t 2).cast nbuf1_2)
/-- The scratch operands: whole scoped buffers of the kernel's own, passed beside the windows. -/
abbrev scM1_0 : Memref sig .tc .vmem S1024x1792 .f32 := Memref.whole cc1_scratch0
/-- The scratch `arg6` the kernel carries between points, as a view: what it holds is stated through it. -/
abbrev VS1_0 : View sig .tc .vmem S1024x1792 .f32 := scM1_0.view

/-- The decode region's staging buffers, each at some contents: they ride through the matmul region untouched. -/
def others (c : Dev nD) : sProp 𝕄 :=
  iprop((∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg0_0), ((c : Thread nD τ).loc cc0_stg0_0) ↦{fullShare} f))

/-- The region's invariant with the scratch operand as a memref owned at some contents, the other region's staging
    buffers beside it, and the generator register. -/
theorem PhiA1_eq (c : Dev nD) :
    (Pipeline.ΦA spec1 c : sProp 𝕄)
      = iprop(iprop((∃ d, owns (c : Thread nD τ) scM1_0 fullShare d) ∗ others c) ∗ (∃ r, prngReg c r)) := by
  unfold Pipeline.ΦA; rw [scopedRest1_eq]; unfold others; simp only [scM1_0, owns_whole]
  refine equiv_iff.mp ⟨(?_ : (_ : sProp 𝕄) ⊢ _), (?_ : (_ : sProp 𝕄) ⊢ _)⟩
  · iintro ⟨⟨H1, H2, H3, H4, H5, H6, H7, H8, HS, H9⟩, Hg⟩
    isplitr [Hg]
    · isplitl [HS]; · iexact HS
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    iexact Hg
  · iintro ⟨⟨HS, H1, H2, H3, H4, H5, H6, H7, H8, H9⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iexact H9
    iexact Hg

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 37, … 851: 24 of 888), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg3 : Memref sig .tc .vmem S1024x512 .bf16) (harg3 : arg3.IsWhole) (arg4 : Memref sig .tc .vmem S512x1792 .bf16) (harg4 : arg4.IsWhole) (arg5 : Memref sig .tc .vmem S1024x1792 .bf16) (harg5 : arg5.IsWhole) (arg6 : Memref sig .tc .vmem S1024x1792 .f32) (harg6 : arg6.IsWhole) (hc0 : cond1_0 i) (hc1 : ¬cond1_1 i)
    (x0 : Vec F S1024x512 .bf16) (x1 : Vec F S512x1792 .bf16) :
    Σ' (L2 : List (View.Piece (Elt F) S1024x1792 .bf16)), { LS0 : List (View.Piece (Elt F) S1024x1792 .f32) //
      ∀ (xi2 : Vec F S1024x1792 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1_dx_matmul i arg3 harg3 arg4 harg4 arg5 harg5 arg6 harg6) K } := by
  refine ⟨[], ?_, fun xi2 E K => ?run⟩
  case run =>
    simp only [cc1_dx_matmul_eq_skeleton]; unfold cc1_dx_matmul_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 886: 840 of 888), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg3 : Memref sig .tc .vmem S1024x512 .bf16) (harg3 : arg3.IsWhole) (arg4 : Memref sig .tc .vmem S512x1792 .bf16) (harg4 : arg4.IsWhole) (arg5 : Memref sig .tc .vmem S1024x1792 .bf16) (harg5 : arg5.IsWhole) (arg6 : Memref sig .tc .vmem S1024x1792 .f32) (harg6 : arg6.IsWhole) (hc0 : ¬cond1_0 i) (hc1 : ¬cond1_1 i)
    (x0 : Vec F S1024x512 .bf16) (x1 : Vec F S512x1792 .bf16) (xs0 : Vec F S1024x1792 .f32) :
    Σ' (L2 : List (View.Piece (Elt F) S1024x1792 .bf16)), { LS0 : List (View.Piece (Elt F) S1024x1792 .f32) //
      ∀ (xi2 : Vec F S1024x1792 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1_dx_matmul i arg3 harg3 arg4 harg4 arg5 harg5 arg6 harg6) K } := by
  refine ⟨[], ?_, fun xi2 E K => ?run⟩
  case run =>
    simp only [cc1_dx_matmul_eq_skeleton]; unfold cc1_dx_matmul_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken: points 36, 73, … 887: 24 of 888), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg3 : Memref sig .tc .vmem S1024x512 .bf16) (harg3 : arg3.IsWhole) (arg4 : Memref sig .tc .vmem S512x1792 .bf16) (harg4 : arg4.IsWhole) (arg5 : Memref sig .tc .vmem S1024x1792 .bf16) (harg5 : arg5.IsWhole) (arg6 : Memref sig .tc .vmem S1024x1792 .f32) (harg6 : arg6.IsWhole) (hc0 : ¬cond1_0 i) (hc1 : cond1_1 i)
    (x0 : Vec F S1024x512 .bf16) (x1 : Vec F S512x1792 .bf16) (xs0 : Vec F S1024x1792 .f32) :
    Σ' (L2 : List (View.Piece (Elt F) S1024x1792 .bf16)), { LS0 : List (View.Piece (Elt F) S1024x1792 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1_dx_matmul i arg3 harg3 arg4 harg4 arg5 harg5 arg6 harg6) K } := by
  refine ⟨?_, ?_, fun E K => ?run⟩
  case run =>
    simp only [cc1_dx_matmul_eq_skeleton]; unfold cc1_dx_matmul_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-- Case A stores nothing into output 2 (the window is idle at its points and not written back there):
    no pieces — a placeholder (junk read back) that nothing consults, since at these points the window is neither
    written back nor read at the next point (Lib/Pipeline.lean "Idle points"). -/
def out1_A_2 (c : Dev nD) (i : grid1.Coords) (arg3 : Memref sig .tc .vmem S1024x512 .bf16) (harg3 : arg3.IsWhole) (arg4 : Memref sig .tc .vmem S512x1792 .bf16) (harg4 : arg4.IsWhole) (arg5 : Memref sig .tc .vmem S1024x1792 .bf16) (harg5 : arg5.IsWhole) (arg6 : Memref sig .tc .vmem S1024x1792 .f32) (harg6 : arg6.IsWhole) (hc0 : cond1_0 i) (hc1 : ¬cond1_1 i)
    (x0 : Vec F S1024x512 .bf16) (x1 : Vec F S512x1792 .bf16) : Vec F S1024x1792 .bf16 :=
  VO1_2.read (Elt F) (VO1_2.writes (Elt F) VO1_2.junk (kernelRun1_A c i arg3 harg3 arg4 harg4 arg5 harg5 arg6 harg6 hc0 hc1 x0 x1).1)

/-- Case A's pieces for scratch `arg6`, which the kernel carries between points, cover it: 2 pieces of `S1024x1792` tiling it (Lib/Ring.lean `Piece.tiledL`). -/
theorem scover1_A_0 (c : Dev nD) (i : grid1.Coords) (arg3 : Memref sig .tc .vmem S1024x512 .bf16) (harg3 : arg3.IsWhole) (arg4 : Memref sig .tc .vmem S512x1792 .bf16) (harg4 : arg4.IsWhole) (arg5 : Memref sig .tc .vmem S1024x1792 .bf16) (harg5 : arg5.IsWhole) (arg6 : Memref sig .tc .vmem S1024x1792 .f32) (harg6 : arg6.IsWhole) (hc0 : cond1_0 i) (hc1 : ¬cond1_1 i)
    (x0 : Vec F S1024x512 .bf16) (x1 : Vec F S512x1792 .bf16) (y : S1024x1792.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x1792.size (by sl_kernel_rfl) y

/-- What case A leaves in scratch `arg6`: its pieces read back over junk. -/
def sout1_A_0 (c : Dev nD) (i : grid1.Coords) (arg3 : Memref sig .tc .vmem S1024x512 .bf16) (harg3 : arg3.IsWhole) (arg4 : Memref sig .tc .vmem S512x1792 .bf16) (harg4 : arg4.IsWhole) (arg5 : Memref sig .tc .vmem S1024x1792 .bf16) (harg5 : arg5.IsWhole) (arg6 : Memref sig .tc .vmem S1024x1792 .f32) (harg6 : arg6.IsWhole) (hc0 : cond1_0 i) (hc1 : ¬cond1_1 i)
    (x0 : Vec F S1024x512 .bf16) (x1 : Vec F S512x1792 .bf16) : Vec F S1024x1792 .f32 :=
  VS1_0.read (Elt F) (VS1_0.writes (Elt F) VS1_0.junk (kernelRun1_A c i arg3 harg3 arg4 harg4 arg5 harg5 arg6 harg6 hc0 hc1 x0 x1).2.1)

/-- Case B stores nothing into output 2 (the window is idle at its points and not written back there):
    no pieces — a placeholder (junk read back) that nothing consults, since at these points the window is neither
    written back nor read at the next point (Lib/Pipeline.lean "Idle points"). -/
def out1_B_2 (c : Dev nD) (i : grid1.Coords) (arg3 : Memref sig .tc .vmem S1024x512 .bf16) (harg3 : arg3.IsWhole) (arg4 : Memref sig .tc .vmem S512x1792 .bf16) (harg4 : arg4.IsWhole) (arg5 : Memref sig .tc .vmem S1024x1792 .bf16) (harg5 : arg5.IsWhole) (arg6 : Memref sig .tc .vmem S1024x1792 .f32) (harg6 : arg6.IsWhole) (hc0 : ¬cond1_0 i) (hc1 : ¬cond1_1 i)
    (x0 : Vec F S1024x512 .bf16) (x1 : Vec F S512x1792 .bf16) (xs0 : Vec F S1024x1792 .f32) : Vec F S1024x1792 .bf16 :=
  VO1_2.read (Elt F) (VO1_2.writes (Elt F) VO1_2.junk (kernelRun1_B c i arg3 harg3 arg4 harg4 arg5 harg5 arg6 harg6 hc0 hc1 x0 x1 xs0).1)

/-- Case B's pieces for scratch `arg6`, which the kernel carries between points, cover it: 1 piece of `S1024x1792` tiling it (Lib/Ring.lean `Piece.tiledL`). -/
theorem scover1_B_0 (c : Dev nD) (i : grid1.Coords) (arg3 : Memref sig .tc .vmem S1024x512 .bf16) (harg3 : arg3.IsWhole) (arg4 : Memref sig .tc .vmem S512x1792 .bf16) (harg4 : arg4.IsWhole) (arg5 : Memref sig .tc .vmem S1024x1792 .bf16) (harg5 : arg5.IsWhole) (arg6 : Memref sig .tc .vmem S1024x1792 .f32) (harg6 : arg6.IsWhole) (hc0 : ¬cond1_0 i) (hc1 : ¬cond1_1 i)
    (x0 : Vec F S1024x512 .bf16) (x1 : Vec F S512x1792 .bf16) (xs0 : Vec F S1024x1792 .f32) (y : S1024x1792.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x1792.size (by sl_kernel_rfl) y

/-- What case B leaves in scratch `arg6`: its pieces read back over junk. -/
def sout1_B_0 (c : Dev nD) (i : grid1.Coords) (arg3 : Memref sig .tc .vmem S1024x512 .bf16) (harg3 : arg3.IsWhole) (arg4 : Memref sig .tc .vmem S512x1792 .bf16) (harg4 : arg4.IsWhole) (arg5 : Memref sig .tc .vmem S1024x1792 .bf16) (harg5 : arg5.IsWhole) (arg6 : Memref sig .tc .vmem S1024x1792 .f32) (harg6 : arg6.IsWhole) (hc0 : ¬cond1_0 i) (hc1 : ¬cond1_1 i)
    (x0 : Vec F S1024x512 .bf16) (x1 : Vec F S512x1792 .bf16) (xs0 : Vec F S1024x1792 .f32) : Vec F S1024x1792 .f32 :=
  VS1_0.read (Elt F) (VS1_0.writes (Elt F) VS1_0.junk (kernelRun1_B c i arg3 harg3 arg4 harg4 arg5 harg5 arg6 harg6 hc0 hc1 x0 x1 xs0).2.1)

/-- Case C's pieces for output 2 tile its block (1 store of `S1024x1792`, checked by the kernel's evaluation: Lib/Ring.lean `Piece.tiledL`, linear in the pieces, through a loop's `@[irreducible]` trip theorem too), so they cover it. -/
theorem cover1_C_2 (c : Dev nD) (i : grid1.Coords) (arg3 : Memref sig .tc .vmem S1024x512 .bf16) (harg3 : arg3.IsWhole) (arg4 : Memref sig .tc .vmem S512x1792 .bf16) (harg4 : arg4.IsWhole) (arg5 : Memref sig .tc .vmem S1024x1792 .bf16) (harg5 : arg5.IsWhole) (arg6 : Memref sig .tc .vmem S1024x1792 .f32) (harg6 : arg6.IsWhole) (hc0 : ¬cond1_0 i) (hc1 : cond1_1 i)
    (x0 : Vec F S1024x512 .bf16) (x1 : Vec F S512x1792 .bf16) (xs0 : Vec F S1024x1792 .f32) (y : S1024x1792.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1024x1792.size (by sl_kernel_rfl) y

/-- What case C leaves in output 2's staging buffer: its pieces read back over junk. -/
def out1_C_2 (c : Dev nD) (i : grid1.Coords) (arg3 : Memref sig .tc .vmem S1024x512 .bf16) (harg3 : arg3.IsWhole) (arg4 : Memref sig .tc .vmem S512x1792 .bf16) (harg4 : arg4.IsWhole) (arg5 : Memref sig .tc .vmem S1024x1792 .bf16) (harg5 : arg5.IsWhole) (arg6 : Memref sig .tc .vmem S1024x1792 .f32) (harg6 : arg6.IsWhole) (hc0 : ¬cond1_0 i) (hc1 : cond1_1 i)
    (x0 : Vec F S1024x512 .bf16) (x1 : Vec F S512x1792 .bf16) (xs0 : Vec F S1024x1792 .f32) : Vec F S1024x1792 .bf16 :=
  VO1_2.read (Elt F) (VO1_2.writes (Elt F) VO1_2.junk (kernelRun1_C c i arg3 harg3 arg4 harg4 arg5 harg5 arg6 harg6 hc0 hc1 x0 x1 xs0).1)

/-- Case C's pieces for scratch `arg6`, which the kernel carries between points, cover it: 1 piece of `S1024x1792` tiling it (Lib/Ring.lean `Piece.tiledL`). -/
theorem scover1_C_0 (c : Dev nD) (i : grid1.Coords) (arg3 : Memref sig .tc .vmem S1024x512 .bf16) (harg3 : arg3.IsWhole) (arg4 : Memref sig .tc .vmem S512x1792 .bf16) (harg4 : arg4.IsWhole) (arg5 : Memref sig .tc .vmem S1024x1792 .bf16) (harg5 : arg5.IsWhole) (arg6 : Memref sig .tc .vmem S1024x1792 .f32) (harg6 : arg6.IsWhole) (hc0 : ¬cond1_0 i) (hc1 : cond1_1 i)
    (x0 : Vec F S1024x512 .bf16) (x1 : Vec F S512x1792 .bf16) (xs0 : Vec F S1024x1792 .f32) (y : S1024x1792.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x1792.size (by sl_kernel_rfl) y

/-- What case C leaves in scratch `arg6`: its pieces read back over junk. -/
def sout1_C_0 (c : Dev nD) (i : grid1.Coords) (arg3 : Memref sig .tc .vmem S1024x512 .bf16) (harg3 : arg3.IsWhole) (arg4 : Memref sig .tc .vmem S512x1792 .bf16) (harg4 : arg4.IsWhole) (arg5 : Memref sig .tc .vmem S1024x1792 .bf16) (harg5 : arg5.IsWhole) (arg6 : Memref sig .tc .vmem S1024x1792 .f32) (harg6 : arg6.IsWhole) (hc0 : ¬cond1_0 i) (hc1 : cond1_1 i)
    (x0 : Vec F S1024x512 .bf16) (x1 : Vec F S512x1792 .bf16) (xs0 : Vec F S1024x1792 .f32) : Vec F S1024x1792 .f32 :=
  VS1_0.read (Elt F) (VS1_0.writes (Elt F) VS1_0.junk (kernelRun1_C c i arg3 harg3 arg4 harg4 arg5 harg5 arg6 harg6 hc0 hc1 x0 x1 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt1 (c : Dev nD) : (n : ℕ) → n < cfg1.N → Vec F S1024x1792 .bf16 × Vec F S1024x1792 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 37 = 0 then
      if h1 : (n + 1) % 37 = 36 then
        False.elim (by have hN : n + 1 < 888 := lt_of_lt_of_eq hn (show cfg1.N = 888 from N_1); omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 37 = 36 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point of case A: that case's contents. -/
theorem outsAt1_A (c : Dev nD) (t : Fin cfg1.N) (h0 : t.val % 37 = 0) (h1 : ¬t.val % 37 = 36) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 37 = 0) (h1 : ¬t.val % 37 = 36) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 37 = 0) (h1 : t.val % 37 = 36) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop((owns (c : Thread nD τ) scM1_0 fullShare ((outsAt1 V c n hn).2)) ∗ others c) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop((owns (c : Thread nD τ) scM1_0 fullShare ((outsAt1 V c n hn).2)) ∗ others c) ∗ (∃ r, prngReg c r)) := rfl

/-- Before a point that is not the first: the carried scratch at what the point before left. -/
theorem PhiS_pos (c : Dev nD) (n : ℕ) (h : n ≤ cfg1.N) (hz : n ≠ 0) :
    PhiS V c n h = iprop(iprop((owns (c : Thread nD τ) scM1_0 fullShare ((outsAt1 V c (n - 1) (by omega)).2)) ∗ others c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 888 := lt_of_lt_of_eq t.isLt (show cfg1.N = 888 from N_1)
  by_cases h0 : t.val % 37 = 0
  · by_cases h1 : t.val % 37 = 36
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      by_cases hz : t.val = 0
      · rw [PhiS_castSucc V c t, PhiS_zero V c _ _ hz, PhiA1_eq]
        rw [outsAt1_A V c t h0 h1]
        unfold sout1_A_0; (try dsimp only)
        iintro ⟨⟨⟨HS0, Hoth⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _)
            iexact Hoth
          iexact Hg
        isplitl [Ho]; · iexact Ho
        isplitl [H0]; · iexact H0
        isplitl [H1]; · iexact H1
        iexists _; iexact H2
      · rw [PhiS_castSucc V c t, PhiS_pos V c _ _ hz]
        rw [outsAt1_A V c t h0 h1]
        unfold sout1_A_0; (try dsimp only)
        iintro ⟨⟨⟨HS0, Hoth⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _)
            iexact Hoth
          iexact Hg
        isplitl [Ho]; · iexact Ho
        isplitl [H0]; · iexact H0
        isplitl [H1]; · iexact H1
        iexists _; iexact H2
  · by_cases h1 : t.val % 37 = 36
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2_C t (fun h => h0 ((hcond1_0 t).mp h)) ((hcond1_1 t).mpr h1)], after1_2]
      by_cases hz : t.val = 0
      · exfalso; have hN : t.val < 888 := lt_of_lt_of_eq t.isLt (show cfg1.N = 888 from N_1); omega
      · rw [PhiS_castSucc V c t, PhiS_pos V c _ _ hz]
        rw [outsAt1_C V c t h0 h1]
        unfold out1_C_2 sout1_C_0; (try dsimp only)
        iintro ⟨⟨⟨HS0, Hoth⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_C_0 c _ _ _ _ _ _ _ _ _ _ _ _ _ _)
            iexact Hoth
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      by_cases hz : t.val = 0
      · exfalso; have hN : t.val < 888 := lt_of_lt_of_eq t.isLt (show cfg1.N = 888 from N_1); omega
      · rw [PhiS_castSucc V c t, PhiS_pos V c _ _ hz]
        rw [outsAt1_B V c t h0 h1]
        unfold sout1_B_0; (try dsimp only)
        iintro ⟨⟨⟨HS0, Hoth⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_B_0 c _ _ _ _ _ _ _ _ _ _ _ _ _ _)
            iexact Hoth
          iexact Hg
        isplitl [Ho]; · iexact Ho
        isplitl [H0]; · iexact H0
        isplitl [H1]; · iexact H1
        iexists _; iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, Hoth⟩, Hg⟩
  isplitl [HS0 Hoth]
  · isplitl [HS0]
    · iexists _; iexact HS0
    iexact Hoth
  iexact Hg

/-- The same after the last point. -/
theorem hout (c : Dev nD) : (dat1 V c).Φ (Fin.last cfg1.N) ⊢ Pipeline.ΦA spec1 c :=
  Phi_out V c _ (by rw [Fin.val_last]; have : cfg1.N = 888 := N_1; omega)

end Cert.KernelIdeal.Hand

end
-- ==== Proof.KernelIdeal.Run.lean ====
module

public import proofs.«01_k».proof.Proof.KernelIdeal.Decode
public import proofs.«01_k».proof.Proof.KernelIdeal.Matmul

@[expose] public section

-- rectangles of production extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v8]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIClass.entails_trans ?_ (Hand.hin (V2 m ρ) c)
    unfold Pipeline.ΦA
    iintro ⟨Hp, -, Hr⟩
    isplitl [Hr]; · iexact Hr
    iexact Hp
  hout c := by
    rw [Pipeline.ownSems0_none]
    refine BIClass.entails_trans (Hand.hout (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN, at any `F`: from any memory with zero counters, every weakly fair execution of @main on the TensorCores
    terminates, nothing faulting; every final state has every unscoped buffer at the last boundary's contents `W4` and
    every semaphore counter of the machine at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- THE FRAME: the argument arrays end as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c)⟩, h.2⟩) (run_all m ρ)

end Cert.KernelIdeal.Hand

end
-- ==== Proof.KernelIdeal.DecodeBlock.lean ====
module

public import proofs.«01_k».proof.Proof.KernelIdeal.Decode
public import Idealize.ShloMosaic.Lib.Pipeline.Value
public import Idealize.ShloMosaic.Lib.ValueIdx
public import Idealize.ShloMosaic.Lib.BitcastPair
public import Idealize.ShloMosaic.Lib.Pipeline.ReadBack

/-! What one grid point of the decode call leaves in its output block: at row `y 0` and column `y 1`, the table entry
    the nibble of the packed byte selects, times the rounded scale of the row's group of 64. -/

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

/-! ## The table lookup -/

/-- The sixteen-entry table read by four bits, the highest first. -/
def nf4Tree (b0 b1 b2 b3 : BitVec 1) : F .bf16 :=
  Scalar.select b3
    (Scalar.select b2
      (Scalar.select b1
        (Scalar.select b0 (FloatOps.ofBits .bf16 0x3F80#16) (FloatOps.ofBits .bf16 0x3F39#16))
        (Scalar.select b0 (FloatOps.ofBits .bf16 0x3F10#16) (FloatOps.ofBits .bf16 0x3EE2#16)))
      (Scalar.select b1
        (Scalar.select b0 (FloatOps.ofBits .bf16 0x3EAD#16) (FloatOps.ofBits .bf16 0x3E7C#16))
        (Scalar.select b0 (FloatOps.ofBits .bf16 0x3E25#16) (FloatOps.ofBits .bf16 0x3DA3#16))))
    (Scalar.select b2
      (Scalar.select b1
        (Scalar.select b0 (FloatOps.ofBits .bf16 0x0000#16) (FloatOps.ofBits .bf16 0xBDBA#16))
        (Scalar.select b0 (FloatOps.ofBits .bf16 0xBE3D#16) (FloatOps.ofBits .bf16 0xBE92#16)))
      (Scalar.select b1
        (Scalar.select b0 (FloatOps.ofBits .bf16 0xBECA#16) (FloatOps.ofBits .bf16 0xBF06#16))
        (Scalar.select b0 (FloatOps.ofBits .bf16 0xBF32#16) (FloatOps.ofBits .bf16 0xBF80#16))))

/-- The 32-bit word the kernel spreads a packed byte into: the low nibble in the low half, the high one in the high half. -/
def spread (w : BitVec 8) : BitVec 32 :=
  IntOp.ori (IntOp.andi (w.setWidth 32) 15#32) (IntOp.shli .vector (IntOp.andi (w.setWidth 32) 240#32) 12#32)

/-- Half `p` of the spread word. -/
def half (w : BitVec 8) (p : Nat) : BitVec 16 := (spread w).extractLsb' (16 * p) 16

/-- The table entry of nibble `p` of a packed byte, as the kernel selects it. -/
def nf4At (w : BitVec 8) (p : Nat) : F .bf16 :=
  nf4Tree (IntOp.cmpi .ne (IntOp.andi (half w p) 1#16) 0#16) (IntOp.cmpi .ne (IntOp.andi (half w p) 2#16) 0#16)
    (IntOp.cmpi .ne (IntOp.andi (half w p) 4#16) 0#16) (IntOp.cmpi .ne (IntOp.andi (half w p) 8#16) 0#16)

/-- A 128 × 128 tile of packed bytes, decoded: the kernel's term. -/
abbrev vals (x : Vec F S128x128 .i8) : FVec F S256x128 .bf16 :=
  k0_pay13 (k0_pay8 x) (k0_pay9 x) (k0_pay10 x) (k0_pay11 x) k0_pay12 (FloatOps.ofBits .bf16 0xBF32#16)

/-- The codes of a tile: row `R` of column `C` is half `R % 2` of the byte at row `C`, column `R / 2`. -/
theorem codes_apply (x : Vec F S128x128 .i8) (j : S256x128.Idx) (i : S128x128.Idx) (h0 : (i 0).val = (j 1).val)
    (h1 : (i 1).val = (j 0).val / 2) : k0_pay7 (F := F) x j = half (x i) ((j 0).val % 2) := by
  unfold k0_pay7
  dsimp only
  rw [bitcast_32_16]
  have hr : S256x128.row j = (j 0).val := rfl
  obtain ⟨k, hk⟩ : ∃ k, k = bitcasts_S128x128_w32_S256x128_w16.srcIdx j (S256x128.row j / 2) (fun a ha => by
      have := bitcasts_S128x128_w32_S256x128_w16.pos_lt j 0 (by decide) a ha; omega) := ⟨_, rfl⟩
  have k0 : (k 0).val = (j 0).val / 2 := by
    rw [hk]; exact Shape.Bitcasts.srcIdx_row bitcasts_S128x128_w32_S256x128_w16 j _ _ (0 : Fin 2) rfl
  have k1 : (k 1).val = (j 1).val := by
    rw [hk]; exact Shape.Bitcasts.srcIdx_other bitcasts_S128x128_w32_S256x128_w16 j _ _ (1 : Fin 2) (by decide)
  have e : transpose S128x128 [1, 0] (extui 32 x natLt_8_32) transposes_S128x128_p1_0_S128x128 k = (x i).setWidth 32 := by
    refine (transpose_apply _ _ _ _ i ?_).trans rfl
    intro a
    match a with
    | ⟨0, _⟩ => exact h1.trans k0.symm
    | ⟨1, _⟩ => exact h0.trans k1.symm
  rw [← hk, hr]
  show BitVec.extractLsb' _ 16 (IntOp.ori (IntOp.andi (transpose S128x128 [1, 0] (extui 32 x natLt_8_32) transposes_S128x128_p1_0_S128x128 k) 15#32)
    (IntOp.shli .vector (IntOp.andi (transpose S128x128 [1, 0] (extui 32 x natLt_8_32) transposes_S128x128_p1_0_S128x128 k) 240#32) 12#32)) = _
  rw [e]
  rfl

/-- A decoded tile at row `R`, column `C`. -/
theorem vals_apply (x : Vec F S128x128 .i8) (j : S256x128.Idx) (i : S128x128.Idx) (h0 : (i 0).val = (j 1).val)
    (h1 : (i 1).val = (j 0).val / 2) : vals x j = nf4At (x i) ((j 0).val % 2) := by
  unfold nf4At
  rw [← codes_apply x j i h0 h1]
  unfold vals k0_pay13 k0_pay8 k0_pay9 k0_pay10 k0_pay11 k0_pay12
  rfl

/-! ## One stored piece -/

/-- The scales of a block, rounded: the kernel's term. -/
theorem rows_apply (q : Vec F S8x512 .i8) (s : Vec F S8x512 .f32) (o : Elt F .f32) (k : S8x512.Idx) :
    k0_pay6 q s o k = FloatOps.truncf .bf16 bitsLt_bf16_f32
      (FloatOps.addf (FloatOps.mulf (FloatOps.sitofp .f32 (q k)) (s k)) o) := by
  unfold k0_pay6
  rw [shapeCast_self, shapeCast_self]
  rfl

/-- A piece's term, read at an index. -/
theorem piece_apply (a : FVec F S8x512 .bf16) (w : FVec F S256x128 .bf16) (o1 o2 o3 : Nat)
    (h1 : S256x128.Slices ![o1, 0] S64x128) (h2 : S8x512.Slices ![o2, o3] S1x128) (hc : S1x128.ShapeCasts S1x128)
    (hb : S1x128.Broadcasts S64x128) (z : S64x128.Idx) (j : S256x128.Idx) (k : S8x512.Idx)
    (hj0 : (j 0).val = o1 + (z 0).val) (hj1 : (j 1).val = (z 1).val)
    (hk0 : (k 0).val = o2) (hk1 : (k 1).val = o3 + (z 1).val) :
    mulf (extractStridedSlice S64x128 ![o1, 0] w h1)
      (broadcastTo S64x128 (shapeCast S1x128 (extractStridedSlice S1x128 ![o2, o3] a h2) hc) hb) z
      = FloatOps.mulf (w j) (a k) := by
  show FloatOps.mulf _ _ = _
  rw [shapeCast_self]
  congr 1
  · exact extractStridedSlice_apply _ _ _ _ _ fun b => by
      match b with
      | ⟨0, _⟩ => exact hj0
      | ⟨1, _⟩ => exact hj1.trans (Nat.zero_add _).symm
  · refine (broadcastTo_apply _ _ _ (ix2 (0 : Fin 1) (⟨(z 1).val, (z 1).isLt⟩ : Fin 128)) ?_).trans ?_
    · intro b
      match b with
      | ⟨0, _⟩ => rfl
      | ⟨1, _⟩ => rfl
    · exact extractStridedSlice_apply _ _ _ _ _ fun b => by
        match b with
        | ⟨0, _⟩ => exact hk0
        | ⟨1, _⟩ => exact hk1

/-- What a grid point leaves at an index of its output block, from its four input blocks. -/
def blkG (x0 : Vec F S1 .f32) (x1 : Vec F S512x256 .i8) (x2 : Vec F S8x512 .i8) (x3 : Vec F S8x512 .f32) (y : S512x512.Idx) :
    Elt F .bf16 :=
  FloatOps.mulf
    (nf4At (x1 (ix2 (⟨(y 1).val, (y 1).isLt⟩ : Fin 512) (⟨(y 0).val / 2, by have h : (y 0).val < 512 := (y 0).isLt; omega⟩ : Fin 256))) ((y 0).val % 2))
    (FloatOps.truncf .bf16 bitsLt_bf16_f32
      (FloatOps.addf
        (FloatOps.mulf
          (FloatOps.sitofp .f32 (x2 (ix2 (⟨(y 0).val / 64, by have h : (y 0).val < 512 := (y 0).isLt; omega⟩ : Fin 8) (⟨(y 1).val, (y 1).isLt⟩ : Fin 512))))
          (x3 (ix2 (⟨(y 0).val / 64, by have h : (y 0).val < 512 := (y 0).isLt; omega⟩ : Fin 8) (⟨(y 1).val, (y 1).isLt⟩ : Fin 512))))
        (x0 (ix1 (0 : Fin 1)))))

/-- A piece is a block of `blkG`: piece `b` of column tile `ct` in half `jt` of the rows. -/
theorem piece_blk (x0 : Vec F S1 .f32) (x1 : Vec F S512x256 .i8) (x2 : Vec F S8x512 .i8) (x3 : Vec F S8x512 .f32)
    (a : FVec F S8x512 .bf16) (x : Vec F S128x128 .i8) (ha : a = k0_pay6 x2 x3 (x0 (ix1 (0 : Fin 1))))
    (jt ct b : Nat) (hb4 : b < 4)
    (inbx : ∀ a, (![128 * ct, 128 * jt] : Fin 2 → Nat) a + S128x128.size a ≤ S512x256.size a)
    (hx : x = View.ld x1 (Rect.unit ![128 * ct, 128 * jt] S128x128.size inbx))
    (inbo : ∀ a, (![256 * jt + 64 * b, 128 * ct] : Fin 2 → Nat) a + S64x128.size a ≤ S512x512.size a)
    (h1 : S256x128.Slices ![64 * b, 0] S64x128) (h2 : S8x512.Slices ![4 * jt + b, 128 * ct] S1x128) (hc : S1x128.ShapeCasts S1x128)
    (hb : S1x128.Broadcasts S64x128) (z : S64x128.Idx) :
    mulf (extractStridedSlice S64x128 ![64 * b, 0] (vals x) h1)
      (broadcastTo S64x128 (shapeCast S1x128 (extractStridedSlice S1x128 ![4 * jt + b, 128 * ct] a h2) hc) hb) z
      = blkG x0 x1 x2 x3 ((Rect.unit (s := S512x512) ![256 * jt + 64 * b, 128 * ct] S64x128.size inbo).emb z) := by
  have z0 : (z 0).val < 64 := (z 0).isLt
  have z1 : (z 1).val < 128 := (z 1).isLt
  have i0 : 256 * jt + 64 * b + 64 ≤ 512 := inbo 0
  have i1 : 128 * ct + 128 ≤ 512 := inbo 1
  have e0 : ((Rect.unit (s := S512x512) ![256 * jt + 64 * b, 128 * ct] S64x128.size inbo).emb z 0).val = 256 * jt + 64 * b + 1 * (z 0).val := rfl
  have e1 : ((Rect.unit (s := S512x512) ![256 * jt + 64 * b, 128 * ct] S64x128.size inbo).emb z 1).val = 128 * ct + 1 * (z 1).val := rfl
  generalize (Rect.unit (s := S512x512) ![256 * jt + 64 * b, 128 * ct] S64x128.size inbo).emb z = y at e0 e1
  rw [piece_apply a (vals x) (64 * b) (4 * jt + b) (128 * ct) h1 h2 hc hb z
    (ix2 (⟨64 * b + (z 0).val, by omega⟩ : Fin 256) (⟨(z 1).val, z1⟩ : Fin 128))
    (ix2 (⟨4 * jt + b, by omega⟩ : Fin 8) (⟨128 * ct + (z 1).val, by omega⟩ : Fin 512)) rfl rfl rfl rfl,
    vals_apply x _ (ix2 (⟨(z 1).val, z1⟩ : Fin 128) (⟨(64 * b + (z 0).val) / 2, by omega⟩ : Fin 128)) rfl rfl, ha, rows_apply, hx]
  unfold blkG
  have c1 : (View.ld x1 (Rect.unit ![128 * ct, 128 * jt] S128x128.size inbx))
      (ix2 (⟨(z 1).val, z1⟩ : Fin 128) (⟨(64 * b + (z 0).val) / 2, by omega⟩ : Fin 128))
      = x1 (ix2 (⟨(y 1).val, (y 1).isLt⟩ : Fin 512) (⟨(y 0).val / 2, by have h : (y 0).val < 512 := (y 0).isLt; omega⟩ : Fin 256)) := by
    show x1 _ = x1 _
    congr 1
    funext a
    apply Fin.ext
    match a with
    | ⟨0, _⟩ => show 128 * ct + 1 * (z 1).val = (y 1).val; omega
    | ⟨1, _⟩ => show 128 * jt + 1 * ((64 * b + (z 0).val) / 2) = (y 0).val / 2; omega
  have c2 : (ix2 (⟨4 * jt + b, by omega⟩ : Fin 8) (⟨128 * ct + (z 1).val, by omega⟩ : Fin 512))
      = (ix2 (⟨(y 0).val / 64, by have h : (y 0).val < 512 := (y 0).isLt; omega⟩ : Fin 8) (⟨(y 1).val, (y 1).isLt⟩ : Fin 512)) := by
    congr 1 <;> apply Fin.ext
    · show 4 * jt + b = (y 0).val / 64; omega
    · show 128 * ct + (z 1).val = (y 1).val; omega
  have c3 : (64 * b + (z 0).val) % 2 = (y 0).val % 2 := by omega
  rw [c1, c2]
  show FloatOps.mulf (nf4At _ ((64 * b + (z 0).val) % 2)) _ = _
  rw [c3]

/-! ## All the pieces -/

section Run
variable {arg2 : Memref sig .tc .smem S1 .f32} (harg2 : arg2.IsWhole) {arg3 : Memref sig .tc .vmem S512x256 .i8} (harg3 : arg3.IsWhole)
  {arg4 : Memref sig .tc .vmem S8x512 .i8} (harg4 : arg4.IsWhole) {arg5 : Memref sig .tc .vmem S8x512 .f32} (harg5 : arg5.IsWhole)
  (x0 : Vec F S1 .f32) (x1 : Vec F S512x256 .i8) (x2 : Vec F S8x512 .i8) (x3 : Vec F S8x512 .f32)

/-- A tile as the body loads it: through the staging buffer holding the block. -/
abbrev tileR {off : Fin 2 → Nat} (h : ∀ a, off a + S128x128.size a ≤ S512x256.size a) : Vec F S128x128 .i8 :=
  arg3.view.readAt (Elt F) (Rect.unit (s := S512x256) off S128x128.size h).toLoadRect (harg3.unread x1)

theorem tileR_eq {off : Fin 2 → Nat} (h : ∀ a, off a + S128x128.size a ≤ S512x256.size a) :
    tileR harg3 x1 h = View.ld x1 (Rect.unit (s := S512x256) off S128x128.size h) := by
  unfold tileR
  rw [View.readAt_eq_ld, harg3.read_unread]

/-- The scales as the body computes them from what it loads. -/
abbrev rowsR : FVec F S8x512 .bf16 :=
  k0_pay6 (arg4.view.readAt (Elt F) (Rect.unit (s := S8x512) ![0, 0] S8x512.size inb_S8x512_S8x512_0_0).toLoadRect (harg4.unread x2))
    (arg5.view.readAt (Elt F) (Rect.unit (s := S8x512) ![0, 0] S8x512.size inb_S8x512_S8x512_0_0).toLoadRect (harg5.unread x3))
    (kernelRun0_A.sl.r (0 : Dev nD) arg2 harg2 x0)

theorem rowsR_eq : rowsR harg2 harg4 harg5 x0 x2 x3 = k0_pay6 x2 x3 (x0 (ix1 (0 : Fin 1))) := by
  have hz : (![0, 0] : Fin 2 → Nat) = fun _ => 0 := funext fun a => by fin_cases a <;> rfl
  unfold rowsR
  simp only [View.readAt_eq_ld, harg4.read_unread, harg5.read_unread, View.ld_unit_zero (S := S8x512) hz]
  congr 1
  unfold kernelRun0_A.sl.r
  rw [View.readAt_eq_ld, harg2.read_unread]
  show x0 _ = x0 _
  congr 1
  funext a
  match a with
  | ⟨0, _⟩ => exact Subsingleton.elim (α := Fin 1) _ _

end Run

/-- The pieces a point's run stores are blocks of `blkG`. -/
theorem pieces (c : Dev nD) (i : grid0.Coords) (arg2 : Memref sig .tc .smem S1 .f32) (harg2 : arg2.IsWhole) (arg3 : Memref sig .tc .vmem S512x256 .i8) (harg3 : arg3.IsWhole) (arg4 : Memref sig .tc .vmem S8x512 .i8) (harg4 : arg4.IsWhole) (arg5 : Memref sig .tc .vmem S8x512 .f32) (harg5 : arg5.IsWhole) (arg6 : Memref sig .tc .vmem S512x512 .bf16) (harg6 : arg6.IsWhole)
    (x0 : Vec F S1 .f32) (x1 : Vec F S512x256 .i8) (x2 : Vec F S8x512 .i8) (x3 : Vec F S8x512 .f32) :
    View.PiecesOf (blkG x0 x1 x2 x3) (kernelRun0_A c i arg2 harg2 arg3 harg3 arg4 harg4 arg5 harg5 arg6 harg6 x0 x1 x2 x3).1 := by
  unfold kernelRun0_A
  dsimp only
  exact ⟨piece_blk x0 x1 x2 x3 (rowsR harg2 harg4 harg5 x0 x2 x3) (tileR harg3 x1 inb_S512x256_S128x128_384_128) (rowsR_eq harg2 harg4 harg5 x0 x2 x3) 1 3 3 (by decide) inb_S512x256_S128x128_384_128 (tileR_eq harg3 x1 _) inb_S512x512_S64x128_448_384 slices_S256x128_o192_0_S64x128 slices_S8x512_o7_384_S1x128 shapeCasts_S1x128_S1x128 broadcasts_S1x128_S64x128,
    piece_blk x0 x1 x2 x3 (rowsR harg2 harg4 harg5 x0 x2 x3) (tileR harg3 x1 inb_S512x256_S128x128_384_128) (rowsR_eq harg2 harg4 harg5 x0 x2 x3) 1 3 2 (by decide) inb_S512x256_S128x128_384_128 (tileR_eq harg3 x1 _) inb_S512x512_S64x128_384_384 slices_S256x128_o128_0_S64x128 slices_S8x512_o6_384_S1x128 shapeCasts_S1x128_S1x128 broadcasts_S1x128_S64x128,
    piece_blk x0 x1 x2 x3 (rowsR harg2 harg4 harg5 x0 x2 x3) (tileR harg3 x1 inb_S512x256_S128x128_384_128) (rowsR_eq harg2 harg4 harg5 x0 x2 x3) 1 3 1 (by decide) inb_S512x256_S128x128_384_128 (tileR_eq harg3 x1 _) inb_S512x512_S64x128_320_384 slices_S256x128_o64_0_S64x128 slices_S8x512_o5_384_S1x128 shapeCasts_S1x128_S1x128 broadcasts_S1x128_S64x128,
    piece_blk x0 x1 x2 x3 (rowsR harg2 harg4 harg5 x0 x2 x3) (tileR harg3 x1 inb_S512x256_S128x128_384_128) (rowsR_eq harg2 harg4 harg5 x0 x2 x3) 1 3 0 (by decide) inb_S512x256_S128x128_384_128 (tileR_eq harg3 x1 _) inb_S512x512_S64x128_256_384 slices_S256x128_o0_0_S64x128 slices_S8x512_o4_384_S1x128 shapeCasts_S1x128_S1x128 broadcasts_S1x128_S64x128,
    piece_blk x0 x1 x2 x3 (rowsR harg2 harg4 harg5 x0 x2 x3) (tileR harg3 x1 inb_S512x256_S128x128_256_128) (rowsR_eq harg2 harg4 harg5 x0 x2 x3) 1 2 3 (by decide) inb_S512x256_S128x128_256_128 (tileR_eq harg3 x1 _) inb_S512x512_S64x128_448_256 slices_S256x128_o192_0_S64x128 slices_S8x512_o7_256_S1x128 shapeCasts_S1x128_S1x128 broadcasts_S1x128_S64x128,
    piece_blk x0 x1 x2 x3 (rowsR harg2 harg4 harg5 x0 x2 x3) (tileR harg3 x1 inb_S512x256_S128x128_256_128) (rowsR_eq harg2 harg4 harg5 x0 x2 x3) 1 2 2 (by decide) inb_S512x256_S128x128_256_128 (tileR_eq harg3 x1 _) inb_S512x512_S64x128_384_256 slices_S256x128_o128_0_S64x128 slices_S8x512_o6_256_S1x128 shapeCasts_S1x128_S1x128 broadcasts_S1x128_S64x128,
    piece_blk x0 x1 x2 x3 (rowsR harg2 harg4 harg5 x0 x2 x3) (tileR harg3 x1 inb_S512x256_S128x128_256_128) (rowsR_eq harg2 harg4 harg5 x0 x2 x3) 1 2 1 (by decide) inb_S512x256_S128x128_256_128 (tileR_eq harg3 x1 _) inb_S512x512_S64x128_320_256 slices_S256x128_o64_0_S64x128 slices_S8x512_o5_256_S1x128 shapeCasts_S1x128_S1x128 broadcasts_S1x128_S64x128,
    piece_blk x0 x1 x2 x3 (rowsR harg2 harg4 harg5 x0 x2 x3) (tileR harg3 x1 inb_S512x256_S128x128_256_128) (rowsR_eq harg2 harg4 harg5 x0 x2 x3) 1 2 0 (by decide) inb_S512x256_S128x128_256_128 (tileR_eq harg3 x1 _) inb_S512x512_S64x128_256_256 slices_S256x128_o0_0_S64x128 slices_S8x512_o4_256_S1x128 shapeCasts_S1x128_S1x128 broadcasts_S1x128_S64x128,
    piece_blk x0 x1 x2 x3 (rowsR harg2 harg4 harg5 x0 x2 x3) (tileR harg3 x1 inb_S512x256_S128x128_128_128) (rowsR_eq harg2 harg4 harg5 x0 x2 x3) 1 1 3 (by decide) inb_S512x256_S128x128_128_128 (tileR_eq harg3 x1 _) inb_S512x512_S64x128_448_128 slices_S256x128_o192_0_S64x128 slices_S8x512_o7_128_S1x128 shapeCasts_S1x128_S1x128 broadcasts_S1x128_S64x128,
    piece_blk x0 x1 x2 x3 (rowsR harg2 harg4 harg5 x0 x2 x3) (tileR harg3 x1 inb_S512x256_S128x128_128_128) (rowsR_eq harg2 harg4 harg5 x0 x2 x3) 1 1 2 (by decide) inb_S512x256_S128x128_128_128 (tileR_eq harg3 x1 _) inb_S512x512_S64x128_384_128 slices_S256x128_o128_0_S64x128 slices_S8x512_o6_128_S1x128 shapeCasts_S1x128_S1x128 broadcasts_S1x128_S64x128,
    piece_blk x0 x1 x2 x3 (rowsR harg2 harg4 harg5 x0 x2 x3) (tileR harg3 x1 inb_S512x256_S128x128_128_128) (rowsR_eq harg2 harg4 harg5 x0 x2 x3) 1 1 1 (by decide) inb_S512x256_S128x128_128_128 (tileR_eq harg3 x1 _) inb_S512x512_S64x128_320_128 slices_S256x128_o64_0_S64x128 slices_S8x512_o5_128_S1x128 shapeCasts_S1x128_S1x128 broadcasts_S1x128_S64x128,
    piece_blk x0 x1 x2 x3 (rowsR harg2 harg4 harg5 x0 x2 x3) (tileR harg3 x1 inb_S512x256_S128x128_128_128) (rowsR_eq harg2 harg4 harg5 x0 x2 x3) 1 1 0 (by decide) inb_S512x256_S128x128_128_128 (tileR_eq harg3 x1 _) inb_S512x512_S64x128_256_128 slices_S256x128_o0_0_S64x128 slices_S8x512_o4_128_S1x128 shapeCasts_S1x128_S1x128 broadcasts_S1x128_S64x128,
    piece_blk x0 x1 x2 x3 (rowsR harg2 harg4 harg5 x0 x2 x3) (tileR harg3 x1 inb_S512x256_S128x128_0_128) (rowsR_eq harg2 harg4 harg5 x0 x2 x3) 1 0 3 (by decide) inb_S512x256_S128x128_0_128 (tileR_eq harg3 x1 _) inb_S512x512_S64x128_448_0 slices_S256x128_o192_0_S64x128 slices_S8x512_o7_0_S1x128 shapeCasts_S1x128_S1x128 broadcasts_S1x128_S64x128,
    piece_blk x0 x1 x2 x3 (rowsR harg2 harg4 harg5 x0 x2 x3) (tileR harg3 x1 inb_S512x256_S128x128_0_128) (rowsR_eq harg2 harg4 harg5 x0 x2 x3) 1 0 2 (by decide) inb_S512x256_S128x128_0_128 (tileR_eq harg3 x1 _) inb_S512x512_S64x128_384_0 slices_S256x128_o128_0_S64x128 slices_S8x512_o6_0_S1x128 shapeCasts_S1x128_S1x128 broadcasts_S1x128_S64x128,
    piece_blk x0 x1 x2 x3 (rowsR harg2 harg4 harg5 x0 x2 x3) (tileR harg3 x1 inb_S512x256_S128x128_0_128) (rowsR_eq harg2 harg4 harg5 x0 x2 x3) 1 0 1 (by decide) inb_S512x256_S128x128_0_128 (tileR_eq harg3 x1 _) inb_S512x512_S64x128_320_0 slices_S256x128_o64_0_S64x128 slices_S8x512_o5_0_S1x128 shapeCasts_S1x128_S1x128 broadcasts_S1x128_S64x128,
    piece_blk x0 x1 x2 x3 (rowsR harg2 harg4 harg5 x0 x2 x3) (tileR harg3 x1 inb_S512x256_S128x128_0_128) (rowsR_eq harg2 harg4 harg5 x0 x2 x3) 1 0 0 (by decide) inb_S512x256_S128x128_0_128 (tileR_eq harg3 x1 _) inb_S512x512_S64x128_256_0 slices_S256x128_o0_0_S64x128 slices_S8x512_o4_0_S1x128 shapeCasts_S1x128_S1x128 broadcasts_S1x128_S64x128,
    piece_blk x0 x1 x2 x3 (rowsR harg2 harg4 harg5 x0 x2 x3) (tileR harg3 x1 inb_S512x256_S128x128_384_0) (rowsR_eq harg2 harg4 harg5 x0 x2 x3) 0 3 3 (by decide) inb_S512x256_S128x128_384_0 (tileR_eq harg3 x1 _) inb_S512x512_S64x128_192_384 slices_S256x128_o192_0_S64x128 slices_S8x512_o3_384_S1x128 shapeCasts_S1x128_S1x128 broadcasts_S1x128_S64x128,
    piece_blk x0 x1 x2 x3 (rowsR harg2 harg4 harg5 x0 x2 x3) (tileR harg3 x1 inb_S512x256_S128x128_384_0) (rowsR_eq harg2 harg4 harg5 x0 x2 x3) 0 3 2 (by decide) inb_S512x256_S128x128_384_0 (tileR_eq harg3 x1 _) inb_S512x512_S64x128_128_384 slices_S256x128_o128_0_S64x128 slices_S8x512_o2_384_S1x128 shapeCasts_S1x128_S1x128 broadcasts_S1x128_S64x128,
    piece_blk x0 x1 x2 x3 (rowsR harg2 harg4 harg5 x0 x2 x3) (tileR harg3 x1 inb_S512x256_S128x128_384_0) (rowsR_eq harg2 harg4 harg5 x0 x2 x3) 0 3 1 (by decide) inb_S512x256_S128x128_384_0 (tileR_eq harg3 x1 _) inb_S512x512_S64x128_64_384 slices_S256x128_o64_0_S64x128 slices_S8x512_o1_384_S1x128 shapeCasts_S1x128_S1x128 broadcasts_S1x128_S64x128,
    piece_blk x0 x1 x2 x3 (rowsR harg2 harg4 harg5 x0 x2 x3) (tileR harg3 x1 inb_S512x256_S128x128_384_0) (rowsR_eq harg2 harg4 harg5 x0 x2 x3) 0 3 0 (by decide) inb_S512x256_S128x128_384_0 (tileR_eq harg3 x1 _) inb_S512x512_S64x128_0_384 slices_S256x128_o0_0_S64x128 slices_S8x512_o0_384_S1x128 shapeCasts_S1x128_S1x128 broadcasts_S1x128_S64x128,
    piece_blk x0 x1 x2 x3 (rowsR harg2 harg4 harg5 x0 x2 x3) (tileR harg3 x1 inb_S512x256_S128x128_256_0) (rowsR_eq harg2 harg4 harg5 x0 x2 x3) 0 2 3 (by decide) inb_S512x256_S128x128_256_0 (tileR_eq harg3 x1 _) inb_S512x512_S64x128_192_256 slices_S256x128_o192_0_S64x128 slices_S8x512_o3_256_S1x128 shapeCasts_S1x128_S1x128 broadcasts_S1x128_S64x128,
    piece_blk x0 x1 x2 x3 (rowsR harg2 harg4 harg5 x0 x2 x3) (tileR harg3 x1 inb_S512x256_S128x128_256_0) (rowsR_eq harg2 harg4 harg5 x0 x2 x3) 0 2 2 (by decide) inb_S512x256_S128x128_256_0 (tileR_eq harg3 x1 _) inb_S512x512_S64x128_128_256 slices_S256x128_o128_0_S64x128 slices_S8x512_o2_256_S1x128 shapeCasts_S1x128_S1x128 broadcasts_S1x128_S64x128,
    piece_blk x0 x1 x2 x3 (rowsR harg2 harg4 harg5 x0 x2 x3) (tileR harg3 x1 inb_S512x256_S128x128_256_0) (rowsR_eq harg2 harg4 harg5 x0 x2 x3) 0 2 1 (by decide) inb_S512x256_S128x128_256_0 (tileR_eq harg3 x1 _) inb_S512x512_S64x128_64_256 slices_S256x128_o64_0_S64x128 slices_S8x512_o1_256_S1x128 shapeCasts_S1x128_S1x128 broadcasts_S1x128_S64x128,
    piece_blk x0 x1 x2 x3 (rowsR harg2 harg4 harg5 x0 x2 x3) (tileR harg3 x1 inb_S512x256_S128x128_256_0) (rowsR_eq harg2 harg4 harg5 x0 x2 x3) 0 2 0 (by decide) inb_S512x256_S128x128_256_0 (tileR_eq harg3 x1 _) inb_S512x512_S64x128_0_256 slices_S256x128_o0_0_S64x128 slices_S8x512_o0_256_S1x128 shapeCasts_S1x128_S1x128 broadcasts_S1x128_S64x128,
    piece_blk x0 x1 x2 x3 (rowsR harg2 harg4 harg5 x0 x2 x3) (tileR harg3 x1 inb_S512x256_S128x128_128_0) (rowsR_eq harg2 harg4 harg5 x0 x2 x3) 0 1 3 (by decide) inb_S512x256_S128x128_128_0 (tileR_eq harg3 x1 _) inb_S512x512_S64x128_192_128 slices_S256x128_o192_0_S64x128 slices_S8x512_o3_128_S1x128 shapeCasts_S1x128_S1x128 broadcasts_S1x128_S64x128,
    piece_blk x0 x1 x2 x3 (rowsR harg2 harg4 harg5 x0 x2 x3) (tileR harg3 x1 inb_S512x256_S128x128_128_0) (rowsR_eq harg2 harg4 harg5 x0 x2 x3) 0 1 2 (by decide) inb_S512x256_S128x128_128_0 (tileR_eq harg3 x1 _) inb_S512x512_S64x128_128_128 slices_S256x128_o128_0_S64x128 slices_S8x512_o2_128_S1x128 shapeCasts_S1x128_S1x128 broadcasts_S1x128_S64x128,
    piece_blk x0 x1 x2 x3 (rowsR harg2 harg4 harg5 x0 x2 x3) (tileR harg3 x1 inb_S512x256_S128x128_128_0) (rowsR_eq harg2 harg4 harg5 x0 x2 x3) 0 1 1 (by decide) inb_S512x256_S128x128_128_0 (tileR_eq harg3 x1 _) inb_S512x512_S64x128_64_128 slices_S256x128_o64_0_S64x128 slices_S8x512_o1_128_S1x128 shapeCasts_S1x128_S1x128 broadcasts_S1x128_S64x128,
    piece_blk x0 x1 x2 x3 (rowsR harg2 harg4 harg5 x0 x2 x3) (tileR harg3 x1 inb_S512x256_S128x128_128_0) (rowsR_eq harg2 harg4 harg5 x0 x2 x3) 0 1 0 (by decide) inb_S512x256_S128x128_128_0 (tileR_eq harg3 x1 _) inb_S512x512_S64x128_0_128 slices_S256x128_o0_0_S64x128 slices_S8x512_o0_128_S1x128 shapeCasts_S1x128_S1x128 broadcasts_S1x128_S64x128,
    piece_blk x0 x1 x2 x3 (rowsR harg2 harg4 harg5 x0 x2 x3) (tileR harg3 x1 inb_S512x256_S128x128_0_0) (rowsR_eq harg2 harg4 harg5 x0 x2 x3) 0 0 3 (by decide) inb_S512x256_S128x128_0_0 (tileR_eq harg3 x1 _) inb_S512x512_S64x128_192_0 slices_S256x128_o192_0_S64x128 slices_S8x512_o3_0_S1x128 shapeCasts_S1x128_S1x128 broadcasts_S1x128_S64x128,
    piece_blk x0 x1 x2 x3 (rowsR harg2 harg4 harg5 x0 x2 x3) (tileR harg3 x1 inb_S512x256_S128x128_0_0) (rowsR_eq harg2 harg4 harg5 x0 x2 x3) 0 0 2 (by decide) inb_S512x256_S128x128_0_0 (tileR_eq harg3 x1 _) inb_S512x512_S64x128_128_0 slices_S256x128_o128_0_S64x128 slices_S8x512_o2_0_S1x128 shapeCasts_S1x128_S1x128 broadcasts_S1x128_S64x128,
    piece_blk x0 x1 x2 x3 (rowsR harg2 harg4 harg5 x0 x2 x3) (tileR harg3 x1 inb_S512x256_S128x128_0_0) (rowsR_eq harg2 harg4 harg5 x0 x2 x3) 0 0 1 (by decide) inb_S512x256_S128x128_0_0 (tileR_eq harg3 x1 _) inb_S512x512_S64x128_64_0 slices_S256x128_o64_0_S64x128 slices_S8x512_o1_0_S1x128 shapeCasts_S1x128_S1x128 broadcasts_S1x128_S64x128,
    piece_blk x0 x1 x2 x3 (rowsR harg2 harg4 harg5 x0 x2 x3) (tileR harg3 x1 inb_S512x256_S128x128_0_0) (rowsR_eq harg2 harg4 harg5 x0 x2 x3) 0 0 0 (by decide) inb_S512x256_S128x128_0_0 (tileR_eq harg3 x1 _) inb_S512x512_S64x128_0_0 slices_S256x128_o0_0_S64x128 slices_S8x512_o0_0_S1x128 shapeCasts_S1x128_S1x128 broadcasts_S1x128_S64x128, trivial⟩

/-- What a point's run leaves in its output block. -/
theorem out0_A_4_apply (c : Dev nD) (i : grid0.Coords) (arg2 : Memref sig .tc .smem S1 .f32) (harg2 : arg2.IsWhole) (arg3 : Memref sig .tc .vmem S512x256 .i8) (harg3 : arg3.IsWhole) (arg4 : Memref sig .tc .vmem S8x512 .i8) (harg4 : arg4.IsWhole) (arg5 : Memref sig .tc .vmem S8x512 .f32) (harg5 : arg5.IsWhole) (arg6 : Memref sig .tc .vmem S512x512 .bf16) (harg6 : arg6.IsWhole)
    (x0 : Vec F S1 .f32) (x1 : Vec F S512x256 .i8) (x2 : Vec F S8x512 .i8) (x3 : Vec F S8x512 .f32) (y : S512x512.Idx) :
    out0_A_4 c i arg2 harg2 arg3 harg3 arg4 harg4 arg5 harg5 arg6 harg6 x0 x1 x2 x3 y = blkG x0 x1 x2 x3 y := by
  unfold out0_A_4
  rw [View.read_writes_junk_eq_canon]
  exact View.canon_apply_of_pieces (blkG x0 x1 x2 x3) _ (View.PiecesOf.mem (pieces c i arg2 harg2 arg3 harg3 arg4 harg4 arg5 harg5 arg6 harg6 x0 x1 x2 x3)) y (cover0_A_4 c i arg2 harg2 arg3 harg3 arg4 harg4 arg5 harg5 arg6 harg6 x0 x1 x2 x3 y)

end Cert.KernelIdeal.Hand

end
-- ==== Proof.KernelIdeal.DecodeValue.lean ====
module

public import proofs.«01_k».proof.Proof.KernelIdeal.DecodeBlock

/-! What the decode call leaves in its result array: the decoded weight, transposed. -/

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]
variable (V : (c : Dev nD) → (b : Ref sig .tc) → Buf (Elt F) ((c : Thread nD τ).loc b))

/-- The decoded weight at row `o`, column `j`: the table entry nibble `o % 2` of the packed byte selects, times the
    rounded scale of the row's group of 64. -/
def decAt (w : S3584x9472.Idx → BitVec 8) (q : S296x3584.Idx → BitVec 8) (s : S296x3584.Idx → F .f32) (z : S1.Idx → F .f32)
    (o : Fin 18944) (j : Fin 3584) : F .bf16 :=
  FloatOps.mulf
    (nf4At (w (ix2 j (⟨o.val / 2, by have := o.isLt; omega⟩ : Fin 9472))) (o.val % 2))
    (FloatOps.truncf .bf16 bitsLt_bf16_f32
      (FloatOps.addf
        (FloatOps.mulf
          (FloatOps.sitofp .f32 (q (ix2 (⟨o.val / 64, by have := o.isLt; omega⟩ : Fin 296) j)))
          (s (ix2 (⟨o.val / 64, by have := o.isLt; omega⟩ : Fin 296) j)))
        (z (ix1 (0 : Fin 1)))))

/-- The result array's contents. -/
def decG (c : Dev nD) : Buf (Elt F) ((c : Thread nD τ).loc main_v6) := fun i : S18944x3584.Idx =>
  decAt (F := F) (V c main_arg1) (V c main_v1) (V c main_v5) (V c main_arg4) (⟨(i 0).val, (i 0).isLt⟩ : Fin 18944) (⟨(i 1).val, (i 1).isLt⟩ : Fin 3584)

/-- Which blocks point `t` reads and writes: `t / 7` numbers the block of 512 rows of the result, `t % 7` that of 512 columns. -/
theorem idx_facts0 : ∀ t : Fin cfg0.N, (win0_1.index t (0 : Fin 2) = t.val % 7 ∧ win0_1.index t (1 : Fin 2) = t.val / 7)
    ∧ (win0_2.index t (0 : Fin 2) = t.val / 7 ∧ win0_2.index t (1 : Fin 2) = t.val % 7)
    ∧ (win0_3.index t (0 : Fin 2) = t.val / 7 ∧ win0_3.index t (1 : Fin 2) = t.val % 7)
    ∧ (win0_4.index t (0 : Fin 2) = t.val / 7 ∧ win0_4.index t (1 : Fin 2) = t.val % 7) :=
  (by decide +kernel : ∀ t : Fin grid0.N, _)

theorem block_offset (c : Dev nD) (t : Fin cfg0.N) : iblk0 V c 0 t (ix1 (0 : Fin 1)) = V c main_arg4 (ix1 (0 : Fin 1)) := by
  show V c main_arg4 (((cfg0.win 0).blk t).view.emb (ix1 (0 : Fin 1))) = _
  congr 1
  funext a
  match a with
  | ⟨0, _⟩ => exact Subsingleton.elim (α := Fin 1) _ _

theorem block_packed (c : Dev nD) (t : Fin cfg0.N) (r : Fin 512) (q : Fin 256) (j : Fin 3584) (p : Fin 9472)
    (hj : j.val = t.val % 7 * 512 + r.val) (hp : p.val = t.val / 7 * 256 + q.val) :
    iblk0 V c 1 t (ix2 r q) = V c main_arg1 (ix2 j p) := by
  obtain ⟨⟨e0, e1⟩, -⟩ := idx_facts0 t
  show V c main_arg1 (((cfg0.win 1).blk t).view.emb (ix2 r q)) = _
  congr 1
  funext b; apply Fin.ext
  match b with
  | ⟨0, _⟩ => show win0_1.index t (0 : Fin 2) * 512 + 1 * r.val = j.val; omega
  | ⟨1, _⟩ => show win0_1.index t (1 : Fin 2) * 256 + 1 * q.val = p.val; omega

theorem block_code (c : Dev nD) (t : Fin cfg0.N) (r : Fin 8) (q : Fin 512) (g : Fin 296) (j : Fin 3584)
    (hg : g.val = t.val / 7 * 8 + r.val) (hj : j.val = t.val % 7 * 512 + q.val) :
    iblk0 V c 2 t (ix2 r q) = V c main_v1 (ix2 g j) := by
  obtain ⟨-, ⟨e0, e1⟩, -⟩ := idx_facts0 t
  show V c main_v1 (((cfg0.win 2).blk t).view.emb (ix2 r q)) = _
  congr 1
  funext b; apply Fin.ext
  match b with
  | ⟨0, _⟩ => show win0_2.index t (0 : Fin 2) * 8 + 1 * r.val = g.val; omega
  | ⟨1, _⟩ => show win0_2.index t (1 : Fin 2) * 512 + 1 * q.val = j.val; omega

theorem block_scale (c : Dev nD) (t : Fin cfg0.N) (r : Fin 8) (q : Fin 512) (g : Fin 296) (j : Fin 3584)
    (hg : g.val = t.val / 7 * 8 + r.val) (hj : j.val = t.val % 7 * 512 + q.val) :
    iblk0 V c 3 t (ix2 r q) = V c main_v5 (ix2 g j) := by
  obtain ⟨-, -, ⟨e0, e1⟩, -⟩ := idx_facts0 t
  show V c main_v5 (((cfg0.win 3).blk t).view.emb (ix2 r q)) = _
  congr 1
  funext b; apply Fin.ext
  match b with
  | ⟨0, _⟩ => show win0_3.index t (0 : Fin 2) * 8 + 1 * r.val = g.val; omega
  | ⟨1, _⟩ => show win0_3.index t (1 : Fin 2) * 512 + 1 * q.val = j.val; omega

/-- What point `t` leaves at an index of its block. -/
theorem outsAt0_apply (c : Dev nD) (t : Fin cfg0.N) (y : S512x512.Idx) (o : Fin 18944) (j : Fin 3584)
    (ho : o.val = t.val / 7 * 512 + (y 0).val) (hj : j.val = t.val % 7 * 512 + (y 1).val) :
    outsAt0 V c t y = decAt (F := F) (V c main_arg1) (V c main_v1) (V c main_v5) (V c main_arg4) o j := by
  have hy0 : (y 0).val < 512 := (y 0).isLt
  have hy1 : (y 1).val < 512 := (y 1).isLt
  unfold outsAt0
  rw [out0_A_4_apply]
  unfold blkG decAt
  rw [block_offset V c t,
    block_packed V c t (⟨(y 1).val, hy1⟩ : Fin 512) (⟨(y 0).val / 2, by omega⟩ : Fin 256) j (⟨o.val / 2, by have := o.isLt; omega⟩ : Fin 9472) hj (by show o.val / 2 = t.val / 7 * 256 + (y 0).val / 2; omega),
    block_code V c t (⟨(y 0).val / 64, by omega⟩ : Fin 8) (⟨(y 1).val, hy1⟩ : Fin 512) (⟨o.val / 64, by have := o.isLt; omega⟩ : Fin 296) j (by show o.val / 64 = t.val / 7 * 8 + (y 0).val / 64; omega) hj,
    block_scale V c t (⟨(y 0).val / 64, by omega⟩ : Fin 8) (⟨(y 1).val, hy1⟩ : Fin 512) (⟨o.val / 64, by have := o.isLt; omega⟩ : Fin 296) j (by show o.val / 64 = t.val / 7 * 8 + (y 0).val / 64; omega) hj,
    show (y 0).val % 2 = o.val % 2 by omega]

/-- What point `t` writes back is block `t` of `decG`. -/
theorem flushed0_eq (c : Dev nD) (t : Fin cfg0.N) :
    (dat0 V c).flushed 4 t = ((cfg0.win 4).blk t).view.read (Elt F) (decG V c) := by
  show (cfg0.win 4).cut (grid0.coords t) ((dat0 V c).after 4 t) = _
  rw [after0_4]
  obtain ⟨-, -, -, e0, e1⟩ := idx_facts0 t
  funext y
  have hb0 : (((cfg0.win 4).blk t).view.emb y 0).val = win0_4.index t (0 : Fin 2) * 512 + 1 * (y 0).val := rfl
  have hb1 : (((cfg0.win 4).blk t).view.emb y 1).val = win0_4.index t (1 : Fin 2) * 512 + 1 * (y 1).val := rfl
  show outsAt0 V c t ((cfg0.win 4).xinj (grid0.coords t) y) = decG V c (((cfg0.win 4).blk t).view.emb y)
  unfold decG
  refine outsAt0_apply V c t _ _ _ ?_ ?_
  · show (((cfg0.win 4).blk t).view.emb y 0).val = t.val / 7 * 512 + (y 0).val
    rw [hb0, e0, Nat.one_mul]
  · show (((cfg0.win 4).blk t).view.emb y 1).val = t.val % 7 * 512 + (y 1).val
    rw [hb1, e1, Nat.one_mul]

theorem mem_blk0 (t : Fin cfg0.N) (i : S18944x3584.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v6).slice (win0_4.rect t)).set ↔ _
  rw [View.set_slice_whole, Rect.mem_set_unit]
  exact Iff.rfl

/-- The blocks cover the result array. -/
theorem covered0 (i : S18944x3584.Idx) : ∃ t : Fin cfg0.N, (cfg0.win 4).flush t = true ∧ i ∈ ((cfg0.win 4).blk t).view.set := by
  have hi0 : (i 0).val < 18944 := (i 0).isLt
  have hi1 : (i 1).val < 3584 := (i 1).isLt
  have hN : 7 * ((i 0).val / 512) + (i 1).val / 512 < cfg0.N := lt_of_lt_of_eq (show _ < 259 by omega) N_0.symm
  refine ⟨⟨7 * ((i 0).val / 512) + (i 1).val / 512, hN⟩, flush0_4 _, ?_⟩
  obtain ⟨-, -, -, e0, e1⟩ := idx_facts0 ⟨7 * ((i 0).val / 512) + (i 1).val / 512, hN⟩
  dsimp only at e0 e1
  rw [mem_blk0]
  intro a
  match a with
  | ⟨0, _⟩ => show win0_4.index _ (0 : Fin 2) * 512 ≤ (i 0).val ∧ (i 0).val < win0_4.index _ (0 : Fin 2) * 512 + 512; omega
  | ⟨1, _⟩ => show win0_4.index _ (1 : Fin 2) * 512 ≤ (i 1).val ∧ (i 1).val < win0_4.index _ (1 : Fin 2) * 512 + 512; omega

/-- The result array after the call. -/
theorem final0 (c : Dev nD) : (dat0 V c).arrAt 4 cfg0.N = decG V c :=
  (dat0 V c).arrAt_eq_of_cover 4 _ (fun t _ => flushed0_eq V c t) covered0

end Cert.KernelIdeal.Hand

end
-- ==== Proof.KernelIdeal.MatmulValue.lean ====
module

public import proofs.«01_k».proof.Proof.KernelIdeal.Matmul
public import Idealize.ShloMosaic.Lib.Pipeline.Value

@[expose] public section

-- rectangles of production extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt1`'s at `n - 1`); a case at the points ≡ 0 (mod 37)
    stores the scratch whole without reading what it held, and `acc` does not enter there (nor where no point meets the
    conditions: `acc`, never read). -/
def scAt1_0 (c : Dev nD) (n : ℕ) (hb : n < cfg1.N) (acc : Vec F S1024x1792 .f32) : Vec F S1024x1792 .f32 :=
  if h0 : n % 37 = 0 then
    if h1 : n % 37 = 36 then
      acc
    else
      sout1_A_0 c (grid1.coords (⟨n, hb⟩ : Fin cfg1.N)) (ms1_0 (⟨n, hb⟩ : Fin cfg1.N)) (hs1_0 (⟨n, hb⟩ : Fin cfg1.N)) (ms1_1 (⟨n, hb⟩ : Fin cfg1.N)) (hs1_1 (⟨n, hb⟩ : Fin cfg1.N)) (ms1_2 (⟨n, hb⟩ : Fin cfg1.N)) (hs1_2 (⟨n, hb⟩ : Fin cfg1.N)) scM1_0 (Memref.isWhole_whole _) ((hcond1_0 (⟨n, hb⟩ : Fin cfg1.N)).mpr h0) (fun h => h1 ((hcond1_1 (⟨n, hb⟩ : Fin cfg1.N)).mp h)) (iblk1 V c 0 (⟨n, hb⟩ : Fin cfg1.N)) (iblk1 V c 1 (⟨n, hb⟩ : Fin cfg1.N))
  else
    if h1 : n % 37 = 36 then
      sout1_C_0 c (grid1.coords (⟨n, hb⟩ : Fin cfg1.N)) (ms1_0 (⟨n, hb⟩ : Fin cfg1.N)) (hs1_0 (⟨n, hb⟩ : Fin cfg1.N)) (ms1_1 (⟨n, hb⟩ : Fin cfg1.N)) (hs1_1 (⟨n, hb⟩ : Fin cfg1.N)) (ms1_2 (⟨n, hb⟩ : Fin cfg1.N)) (hs1_2 (⟨n, hb⟩ : Fin cfg1.N)) scM1_0 (Memref.isWhole_whole _) (fun h => h0 ((hcond1_0 (⟨n, hb⟩ : Fin cfg1.N)).mp h)) ((hcond1_1 (⟨n, hb⟩ : Fin cfg1.N)).mpr h1) (iblk1 V c 0 (⟨n, hb⟩ : Fin cfg1.N)) (iblk1 V c 1 (⟨n, hb⟩ : Fin cfg1.N)) acc
    else
      sout1_B_0 c (grid1.coords (⟨n, hb⟩ : Fin cfg1.N)) (ms1_0 (⟨n, hb⟩ : Fin cfg1.N)) (hs1_0 (⟨n, hb⟩ : Fin cfg1.N)) (ms1_1 (⟨n, hb⟩ : Fin cfg1.N)) (hs1_1 (⟨n, hb⟩ : Fin cfg1.N)) (ms1_2 (⟨n, hb⟩ : Fin cfg1.N)) (hs1_2 (⟨n, hb⟩ : Fin cfg1.N)) scM1_0 (Memref.isWhole_whole _) (fun h => h0 ((hcond1_0 (⟨n, hb⟩ : Fin cfg1.N)).mp h)) (fun h => h1 ((hcond1_1 (⟨n, hb⟩ : Fin cfg1.N)).mp h)) (iblk1 V c 0 (⟨n, hb⟩ : Fin cfg1.N)) (iblk1 V c 1 (⟨n, hb⟩ : Fin cfg1.N)) acc

/-- WHAT CARRIED SCRATCH 0 HOLDS after point `t`: the fold of its run up to `t`, from the reset at the run's first point
    `37·(t / 37)` (Lib/Pipeline/Value.lean `Pipeline.eq_accAt_of_mod`, by the frame's `outsAt1_κ`; without enumerating the points). -/
theorem soutsAt1_0_eq (c : Dev nD) (t : Fin cfg1.N) :
    (outsAt1 V c t.val t.isLt).2 = Pipeline.accAt (fun n h => scAt1_0 V c n h (VS1_0.read (Elt F) VS1_0.junk)) (scAt1_0 V c) (37 * (t.val / 37)) (t.val % 37)
      (by have h1 := t.isLt; have h2 := Nat.div_add_mod t.val 37; omega) :=
  Pipeline.eq_accAt_of_mod (fun n h => (outsAt1 V c n h).2) 37 (fun n h => scAt1_0 V c n h (VS1_0.read (Elt F) VS1_0.junk)) (scAt1_0 V c)
    (fun n h hn => by
      have hN := lt_of_lt_of_eq h (show cfg1.N = 888 from N_1)
      by_cases h0 : n % 37 = 0 <;> by_cases h1 : n % 37 = 36
      all_goals first | (exfalso; omega) | (rw [outsAt1_A V c ⟨n, h⟩ h0 h1]; dsimp only; unfold scAt1_0; rw [dif_pos h0, dif_neg h1] <;> try rfl) | (rw [outsAt1_B V c ⟨n, h⟩ h0 h1]; dsimp only; unfold scAt1_0; rw [dif_neg h0, dif_neg h1] <;> try rfl) | (rw [outsAt1_C V c ⟨n, h⟩ h0 h1]; dsimp only; unfold scAt1_0; rw [dif_neg h0, dif_pos h1] <;> try rfl))
    (fun n h hn => by
      have hN := lt_of_lt_of_eq h (show cfg1.N = 888 from N_1)
      by_cases h0 : (n + 1) % 37 = 0 <;> by_cases h1 : (n + 1) % 37 = 36
      all_goals first | (exfalso; omega) | (rw [outsAt1_A V c ⟨n + 1, h⟩ h0 h1]; dsimp only; unfold scAt1_0; rw [dif_pos h0, dif_neg h1] <;> try rfl) | (rw [outsAt1_B V c ⟨n + 1, h⟩ h0 h1]; dsimp only; unfold scAt1_0; rw [dif_neg h0, dif_neg h1] <;> try rfl) | (rw [outsAt1_C V c ⟨n + 1, h⟩ h0 h1]; dsimp only; unfold scAt1_0; rw [dif_neg h0, dif_pos h1] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk1 : Vec F S1024x1792 .bf16 × Vec F S1024x1792 .f32 :=
  ((VO1_2.read (Elt F) VO1_2.junk, VS1_0.read (Elt F) VS1_0.junk) : Vec F S1024x1792 .bf16 × Vec F S1024x1792 .f32)

/-- THE STEP: what point `n` leaves in the named outputs and the carried scratch (`Gen.outsAt1`'s tuple), over what the
    point before left (`acc`) — `Gen.outsAt1`'s own successor arm: the case the closed forms select at `n`, its named
    terms at the point's memrefs and input blocks; whatever the case reads back, takes by name or carries idle is read
    off `acc`. An assignment of the conditions no point meets is no case (`False.elim`). -/
def stAt1 (c : Dev nD) (n : ℕ) (hb : n < cfg1.N) (acc : Vec F S1024x1792 .bf16 × Vec F S1024x1792 .f32) : Vec F S1024x1792 .bf16 × Vec F S1024x1792 .f32 :=
  if h0 : n % 37 = 0 then
    if h1 : n % 37 = 36 then
      False.elim (by have hN : n < 888 := lt_of_lt_of_eq hb (show cfg1.N = 888 from N_1); omega)
    else
      (out1_A_2 c (grid1.coords (⟨n, hb⟩ : Fin cfg1.N)) (ms1_0 (⟨n, hb⟩ : Fin cfg1.N)) (hs1_0 (⟨n, hb⟩ : Fin cfg1.N)) (ms1_1 (⟨n, hb⟩ : Fin cfg1.N)) (hs1_1 (⟨n, hb⟩ : Fin cfg1.N)) (ms1_2 (⟨n, hb⟩ : Fin cfg1.N)) (hs1_2 (⟨n, hb⟩ : Fin cfg1.N)) scM1_0 (Memref.isWhole_whole _) ((hcond1_0 (⟨n, hb⟩ : Fin cfg1.N)).mpr h0) (fun h => h1 ((hcond1_1 (⟨n, hb⟩ : Fin cfg1.N)).mp h)) (iblk1 V c 0 (⟨n, hb⟩ : Fin cfg1.N)) (iblk1 V c 1 (⟨n, hb⟩ : Fin cfg1.N)), sout1_A_0 c (grid1.coords (⟨n, hb⟩ : Fin cfg1.N)) (ms1_0 (⟨n, hb⟩ : Fin cfg1.N)) (hs1_0 (⟨n, hb⟩ : Fin cfg1.N)) (ms1_1 (⟨n, hb⟩ : Fin cfg1.N)) (hs1_1 (⟨n, hb⟩ : Fin cfg1.N)) (ms1_2 (⟨n, hb⟩ : Fin cfg1.N)) (hs1_2 (⟨n, hb⟩ : Fin cfg1.N)) scM1_0 (Memref.isWhole_whole _) ((hcond1_0 (⟨n, hb⟩ : Fin cfg1.N)).mpr h0) (fun h => h1 ((hcond1_1 (⟨n, hb⟩ : Fin cfg1.N)).mp h)) (iblk1 V c 0 (⟨n, hb⟩ : Fin cfg1.N)) (iblk1 V c 1 (⟨n, hb⟩ : Fin cfg1.N)))
  else
    if h1 : n % 37 = 36 then
      (out1_C_2 c (grid1.coords (⟨n, hb⟩ : Fin cfg1.N)) (ms1_0 (⟨n, hb⟩ : Fin cfg1.N)) (hs1_0 (⟨n, hb⟩ : Fin cfg1.N)) (ms1_1 (⟨n, hb⟩ : Fin cfg1.N)) (hs1_1 (⟨n, hb⟩ : Fin cfg1.N)) (ms1_2 (⟨n, hb⟩ : Fin cfg1.N)) (hs1_2 (⟨n, hb⟩ : Fin cfg1.N)) scM1_0 (Memref.isWhole_whole _) (fun h => h0 ((hcond1_0 (⟨n, hb⟩ : Fin cfg1.N)).mp h)) ((hcond1_1 (⟨n, hb⟩ : Fin cfg1.N)).mpr h1) (iblk1 V c 0 (⟨n, hb⟩ : Fin cfg1.N)) (iblk1 V c 1 (⟨n, hb⟩ : Fin cfg1.N)) acc.2, sout1_C_0 c (grid1.coords (⟨n, hb⟩ : Fin cfg1.N)) (ms1_0 (⟨n, hb⟩ : Fin cfg1.N)) (hs1_0 (⟨n, hb⟩ : Fin cfg1.N)) (ms1_1 (⟨n, hb⟩ : Fin cfg1.N)) (hs1_1 (⟨n, hb⟩ : Fin cfg1.N)) (ms1_2 (⟨n, hb⟩ : Fin cfg1.N)) (hs1_2 (⟨n, hb⟩ : Fin cfg1.N)) scM1_0 (Memref.isWhole_whole _) (fun h => h0 ((hcond1_0 (⟨n, hb⟩ : Fin cfg1.N)).mp h)) ((hcond1_1 (⟨n, hb⟩ : Fin cfg1.N)).mpr h1) (iblk1 V c 0 (⟨n, hb⟩ : Fin cfg1.N)) (iblk1 V c 1 (⟨n, hb⟩ : Fin cfg1.N)) acc.2)
    else
      (out1_B_2 c (grid1.coords (⟨n, hb⟩ : Fin cfg1.N)) (ms1_0 (⟨n, hb⟩ : Fin cfg1.N)) (hs1_0 (⟨n, hb⟩ : Fin cfg1.N)) (ms1_1 (⟨n, hb⟩ : Fin cfg1.N)) (hs1_1 (⟨n, hb⟩ : Fin cfg1.N)) (ms1_2 (⟨n, hb⟩ : Fin cfg1.N)) (hs1_2 (⟨n, hb⟩ : Fin cfg1.N)) scM1_0 (Memref.isWhole_whole _) (fun h => h0 ((hcond1_0 (⟨n, hb⟩ : Fin cfg1.N)).mp h)) (fun h => h1 ((hcond1_1 (⟨n, hb⟩ : Fin cfg1.N)).mp h)) (iblk1 V c 0 (⟨n, hb⟩ : Fin cfg1.N)) (iblk1 V c 1 (⟨n, hb⟩ : Fin cfg1.N)) acc.2, sout1_B_0 c (grid1.coords (⟨n, hb⟩ : Fin cfg1.N)) (ms1_0 (⟨n, hb⟩ : Fin cfg1.N)) (hs1_0 (⟨n, hb⟩ : Fin cfg1.N)) (ms1_1 (⟨n, hb⟩ : Fin cfg1.N)) (hs1_1 (⟨n, hb⟩ : Fin cfg1.N)) (ms1_2 (⟨n, hb⟩ : Fin cfg1.N)) (hs1_2 (⟨n, hb⟩ : Fin cfg1.N)) scM1_0 (Memref.isWhole_whole _) (fun h => h0 ((hcond1_0 (⟨n, hb⟩ : Fin cfg1.N)).mp h)) (fun h => h1 ((hcond1_1 (⟨n, hb⟩ : Fin cfg1.N)).mp h)) (iblk1 V c 0 (⟨n, hb⟩ : Fin cfg1.N)) (iblk1 V c 1 (⟨n, hb⟩ : Fin cfg1.N)) acc.2)

/-- `stAt1` at a point of case A: that case's contents. -/
theorem stAt1_A (c : Dev nD) (t : Fin cfg1.N) (acc : Vec F S1024x1792 .bf16 × Vec F S1024x1792 .f32) (h0 : t.val % 37 = 0) (h1 : ¬t.val % 37 = 36) :
    stAt1 V c t.val t.isLt acc = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) :=
  (dif_pos h0).trans ((dif_neg h1).trans rfl)

/-- `stAt1` at a point of case B: that case's contents, over `acc`. -/
theorem stAt1_B (c : Dev nD) (t : Fin cfg1.N) (acc : Vec F S1024x1792 .bf16 × Vec F S1024x1792 .f32) (h0 : ¬t.val % 37 = 0) (h1 : ¬t.val % 37 = 36) :
    stAt1 V c t.val t.isLt acc = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) acc.2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) acc.2) :=
  (dif_neg h0).trans ((dif_neg h1).trans rfl)

/-- `stAt1` at a point of case C: that case's contents, over `acc`. -/
theorem stAt1_C (c : Dev nD) (t : Fin cfg1.N) (acc : Vec F S1024x1792 .bf16 × Vec F S1024x1792 .f32) (h0 : ¬t.val % 37 = 0) (h1 : t.val % 37 = 36) :
    stAt1 V c t.val t.isLt acc = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) acc.2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) acc.2) :=
  (dif_neg h0).trans ((dif_pos h1).trans rfl)

/-- The recursion's successor step is `stAt1`, by definition. -/
theorem outsAt1_succ (c : Dev nD) (n : ℕ) (hn : n + 1 < cfg1.N) :
    outsAt1 V c (n + 1) hn = stAt1 V c (n + 1) hn (outsAt1 V c n (Nat.lt_of_succ_lt hn)) := rfl

/-- At the first point the recursion is `stAt1` from `junk1`: its case (case A) reads nothing back. -/
theorem outsAt1_zero (c : Dev nD) (hn : 0 < cfg1.N) : outsAt1 V c 0 hn = stAt1 V c 0 hn junk1 := by
  rw [stAt1_A V c ⟨0, hn⟩ _ (Nat.zero_mod _) (fun h => by (try dsimp only at h); omega)]
  rfl

/-- WHAT THE NAMED OUTPUTS AND THE CARRIED SCRATCH HOLD after point `n`: the fold of `stAt1` from the first point,
    started at `junk1` (Lib/Pipeline/Value.lean `Pipeline.accAt`; by `eq_accAt_of_mod` at one run spanning the grid,
    without enumerating the points). -/
theorem outsAt1_sweep (c : Dev nD) (n : ℕ) (hn : n < cfg1.N) :
    outsAt1 V c n hn = Pipeline.accAt (fun n h => stAt1 V c n h junk1) (stAt1 V c) 0 n (by omega) := by
  have hN := lt_of_lt_of_eq hn (show cfg1.N = 888 from N_1)
  have e := Pipeline.eq_accAt_of_mod (fun n h => outsAt1 V c n h) 888 (fun n h => stAt1 V c n h junk1) (stAt1 V c)
    (fun n h _ => by
      have hN := lt_of_lt_of_eq h (show cfg1.N = 888 from N_1)
      obtain rfl : n = 0 := by omega
      exact outsAt1_zero V c h)
    (fun n h _ => outsAt1_succ V c n h)
    (by decide) n hn (by have := Nat.div_add_mod n 888; omega)
  have hd : n / 888 = 0 := Nat.div_eq_of_lt hN
  have hm : n % 888 = n := Nat.mod_eq_of_lt hN
  simpa only [hd, hm, Nat.mul_zero] using e

/-! ## Accumulated: each named output's array, the carried state's fold read at the window's flushing points -/

/-- Two folds from the first point of equal length are one (the bound's proof does not enter). -/
theorem fold1_congr (c : Dev nD) : ∀ (j : ℕ) (h : 0 + j < cfg1.N) (j' : ℕ) (h' : 0 + j' < cfg1.N), j = j' →
    Pipeline.accAt (fun n h => stAt1 V c n h junk1) (stAt1 V c) 0 j h = Pipeline.accAt (fun n h => stAt1 V c n h junk1) (stAt1 V c) 0 j' h' := by
  intro j h j' h' hj; subst hj; rfl

/-! ## Output window 2 -/

/-- The block of the array that holds index `i`, numbered in the order the points write the blocks back (one every 37 points),
    `i`'s place in it, and the point that writes it back (the last of its 37). -/
abbrev run2Of (i : S12288x3584.Idx) : ℕ := 2 * ((i 0).val / 1024 - 0) + 1 * ((i 1).val / 1792 - 0)
set_option backward.proofsInPublic true in
abbrev loc2Of (i : S12288x3584.Idx) : S1024x1792.Idx := fun a => match a with
  | ⟨0, _⟩ => ⟨(i 0).val % 1024, Nat.mod_lt _ (by decide)⟩
  | ⟨1, _⟩ => ⟨(i 1).val % 1792, Nat.mod_lt _ (by decide)⟩
abbrev pt2Of (i : S12288x3584.Idx) : ℕ := 37 * run2Of i + 36

/-- WHAT THE ARRAY ENDS HOLDING at index `i` inside the box the flushing blocks fill: output 2's component of the carried
    state's fold at the point that writes `i`'s block back, at `i`'s place in the block. `G2` states the array's contents
    only inside the box. -/
def G2 (c : Dev nD) : Buf (Elt F) ((c : Thread nD τ).loc main_v7) := fun i =>
  if h : pt2Of i < cfg1.N then
    (Pipeline.accAt (fun n h => stAt1 V c n h junk1) (stAt1 V c) 0 (pt2Of i) (by omega)).1 (loc2Of i)
  else V c (Pipeline.arrRef spec1 2) i

/-- The printed index map, decided over the grid: output window 2's block indices stay in the box, and the block number
    read off them is the point's (`t / 37`). -/
theorem idx_facts2 : ∀ t : Fin cfg1.N, 0 ≤ win1_2.index t (0 : Fin 2) ∧ win1_2.index t (0 : Fin 2) ≤ 11
    ∧ 0 ≤ win1_2.index t (1 : Fin 2) ∧ win1_2.index t (1 : Fin 2) ≤ 1
    ∧ 2 * (win1_2.index t (0 : Fin 2) - 0) + 1 * (win1_2.index t (1 : Fin 2) - 0) = t.val / 37 :=
  (by decide +kernel : ∀ t : Fin grid1.N, _)

/-- Every block of the box is SOME flushing point's: `onto2Pt`, the point that writes back the block at place `q` of the box (the last point of its run). -/
abbrev onto2Pt (q0 : Fin 12) (q1 : Fin 2) : Fin grid1.N :=
  ⟨37 * (2 * q0.val + 1 * q1.val) + 36, lt_of_lt_of_eq (by omega) N_1.symm⟩
theorem idx_onto2 : ∀ (q0 : Fin 12) (q1 : Fin 2), ∃ t : Fin cfg1.N, (cfg1.win 2).flush t = true ∧ win1_2.index t = ![q0.val + 0, q1.val + 0] :=
  fun q0 q1 => ⟨onto2Pt q0 q1, (by decide +kernel : ∀ (q0 : Fin 12) (q1 : Fin 2), win1_2.flush (onto2Pt q0 q1) = true ∧ win1_2.index (onto2Pt q0 q1) = ![q0.val + 0, q1.val + 0]) q0 q1⟩

/-- WHAT A FLUSHING POINT `t` WRITES BACK is block `t` of `G2`: output 2's component of the fold up to `t`. -/
theorem flushed2_eq (c : Dev nD) (t : Fin cfg1.N) (hf : (cfg1.win 2).flush t = true) :
    (dat1 V c).flushed 2 t = ((cfg1.win 2).blk t).view.read (Elt F) (G2 V c) := by
  show (cfg1.win 2).cut (grid1.coords t) ((dat1 V c).after 2 t) = _
  rw [after1_2, outsAt1_sweep]
  have hm : t.val % 37 = 36 := (flush1_2 t).mp hf
  obtain ⟨e0, e1, e2⟩ := idx_facts2 t
  funext y
  have hy0 : (y 0).val < 1024 := (y 0).isLt
  have hy1 : (y 1).val < 1792 := (y 1).isLt
  have hb0 : (((cfg1.win 2).blk t).view.emb y 0).val = win1_2.index t (0 : Fin 2) * 1024 + 1 * (y 0).val := rfl
  have hb1 : (((cfg1.win 2).blk t).view.emb y 1).val = win1_2.index t (1 : Fin 2) * 1792 + 1 * (y 1).val := rfl
  have hr : run2Of (((cfg1.win 2).blk t).view.emb y) = t.val / 37 := by
    show 2 * ((((cfg1.win 2).blk t).view.emb y 0).val / 1024 - 0) + 1 * ((((cfg1.win 2).blk t).view.emb y 1).val / 1792 - 0) = _
    rw [hb0, hb1]
    rw [show (win1_2.index t (0 : Fin 2) * 1024 + 1 * (y 0).val) / 1024 = win1_2.index t (0 : Fin 2) from by omega]; rw [show (win1_2.index t (1 : Fin 2) * 1792 + 1 * (y 1).val) / 1792 = win1_2.index t (1 : Fin 2) from by omega]
    omega
  have hl : loc2Of (((cfg1.win 2).blk t).view.emb y) = (cfg1.win 2).xinj (grid1.coords t) y := by
    funext a; apply Fin.ext
    match a with
    | ⟨0, _⟩ => show (((cfg1.win 2).blk t).view.emb y 0).val % 1024 = (y 0).val; rw [hb0]; omega
    | ⟨1, _⟩ => show (((cfg1.win 2).blk t).view.emb y 1).val % 1792 = (y 1).val; rw [hb1]; omega
  have hp : pt2Of (((cfg1.win 2).blk t).view.emb y) = t.val := by
    show 37 * run2Of (((cfg1.win 2).blk t).view.emb y) + 36 = _
    rw [hr]; have := Nat.div_add_mod t.val 37; omega
  show (Pipeline.accAt (fun n h => stAt1 V c n h junk1) (stAt1 V c) 0 t.val _).1 ((cfg1.win 2).xinj (grid1.coords t) y) = G2 V c (((cfg1.win 2).blk t).view.emb y)
  unfold G2
  rw [dif_pos (by rw [hp]; exact t.isLt), hl, fold1_congr V c _ _ _ _ hp.symm]

/-- An index of the array is in point `t`'s block iff each coordinate is in the block's range on its axis. -/
theorem mem_blk2 (t : Fin cfg1.N) (i : S12288x3584.Idx) :
    i ∈ ((cfg1.win 2).blk t).view.set ↔ ∀ a : Fin 2, win1_2.index t a * S1024x1792.size a ≤ (i a).val ∧ (i a).val < win1_2.index t a * S1024x1792.size a + S1024x1792.size a := by
  show i ∈ ((View.whole main_v7).slice (win1_2.rect t)).set ↔ _
  rw [View.set_slice_whole, Rect.mem_set_unit]
  exact Iff.rfl

/-- THE COVERED INDICES: in some flushing point's block iff inside the box those blocks fill. -/
theorem covered_iff2 (i : S12288x3584.Idx) :
    (∃ t : Fin cfg1.N, (cfg1.win 2).flush t = true ∧ i ∈ ((cfg1.win 2).blk t).view.set) ↔ 0 ≤ (i 0).val ∧ (i 0).val < 12288 ∧ 0 ≤ (i 1).val ∧ (i 1).val < 3584 := by
  constructor
  · rintro ⟨t, -, hi⟩
    rw [mem_blk2] at hi
    have b0 : win1_2.index t (0 : Fin 2) * 1024 ≤ (i 0).val ∧ (i 0).val < win1_2.index t (0 : Fin 2) * 1024 + 1024 := hi 0
    have b1 : win1_2.index t (1 : Fin 2) * 1792 ≤ (i 1).val ∧ (i 1).val < win1_2.index t (1 : Fin 2) * 1792 + 1792 := hi 1
    obtain ⟨e0, e1, e2⟩ := idx_facts2 t
    omega
  · intro h
    have hi0 : (i 0).val < 12288 := (i 0).isLt
    have hi1 : (i 1).val < 3584 := (i 1).isLt
    obtain ⟨t, hft, ht⟩ := idx_onto2 ⟨(i 0).val / 1024 - 0, by omega⟩ ⟨(i 1).val / 1792 - 0, by omega⟩
    have q0 : win1_2.index t (0 : Fin 2) = (i 0).val / 1024 - 0 + 0 := congrFun ht 0
    have q1 : win1_2.index t (1 : Fin 2) = (i 1).val / 1792 - 0 + 0 := congrFun ht 1
    refine ⟨t, hft, ?_⟩
    rw [mem_blk2]
    intro a
    match a with
    | ⟨0, _⟩ => show win1_2.index t (0 : Fin 2) * 1024 ≤ (i 0).val ∧ (i 0).val < win1_2.index t (0 : Fin 2) * 1024 + 1024; omega
    | ⟨1, _⟩ => show win1_2.index t (1 : Fin 2) * 1792 ≤ (i 1).val ∧ (i 1).val < win1_2.index t (1 : Fin 2) * 1792 + 1792; omega

/-- THE ARRAY after the run: `G2` (the flushing blocks tile it). -/
theorem final2 (c : Dev nD) : (dat1 V c).arrAt 2 cfg1.N = G2 V c :=
  (dat1 V c).arrAt_eq_of_cover 2 _ (fun t hf => flushed2_eq V c t hf) (fun i => (covered_iff2 i).2 (by
    have h0 : (i 0).val < 12288 := (i 0).isLt; have h1 : (i 1).val < 3584 := (i 1).isLt; omega))

end Cert.KernelIdeal.Hand

end
-- ==== Proof.KernelIdeal.MatmulSum.lean ====
module

public import proofs.«01_k».proof.Proof.KernelIdeal.MatmulValue
public import Idealize.ShloMosaic.Lib.ValueIdx
public import Idealize.ShloMosaic.PureOps.Ideal.Laws
public import Idealize.ShloMosaic.Lib.Tactic

/-! What the matrix product call leaves in its result array, over the extended reals: each element is the whole
    contraction of a row of the left operand with a column of the right one. The call walks the contraction in 37 chunks
    of 512; the chunks' partial sums are added up in a scratch buffer, and their sum is the whole one. -/

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

/-! ## What one grid point stores -/

section Cases
variable {F : FTy → Type} [FloatOps F]

theorem hz2 : (![0, 0] : Fin 2 → Nat) = fun _ => 0 := funext fun a => by fin_cases a <;> rfl

/-- First chunk: the scratch is zeroed, then the chunk's product is added. -/
theorem sout_A (c : Dev nD) (i : grid1.Coords) (a3 : Memref sig .tc .vmem S1024x512 .bf16) (h3 : a3.IsWhole) (a4 : Memref sig .tc .vmem S512x1792 .bf16) (h4 : a4.IsWhole) (a5 : Memref sig .tc .vmem S1024x1792 .bf16) (h5 : a5.IsWhole) (a6 : Memref sig .tc .vmem S1024x1792 .f32) (h6 : a6.IsWhole) (hc0 : cond1_0 i) (hc1 : ¬cond1_1 i)
    (x0 : Vec F S1024x512 .bf16) (x1 : Vec F S512x1792 .bf16) :
    sout1_A_0 c i a3 h3 a4 h4 a5 h5 a6 h6 hc0 hc1 x0 x1 = k1_pay2 k1_pay1 x0 x1 := by
  unfold sout1_A_0
  rw [View.read_writes_junk_eq_canon]
  unfold kernelRun1_A
  dsimp only
  sl_unfold_words
  rw [View.canon_cons_unit_zero (S := S1024x1792) hz2, View.readCov_unit_zero (S := S1024x1792) _ hz2]
  simp only [View.readAt_eq_ld, h3.read_unread, h4.read_unread, View.ld_unit_zero (S := S1024x512) hz2, View.ld_unit_zero (S := S512x1792) hz2]

/-- A middle chunk: the chunk's product is added to the scratch. -/
theorem sout_B (c : Dev nD) (i : grid1.Coords) (a3 : Memref sig .tc .vmem S1024x512 .bf16) (h3 : a3.IsWhole) (a4 : Memref sig .tc .vmem S512x1792 .bf16) (h4 : a4.IsWhole) (a5 : Memref sig .tc .vmem S1024x1792 .bf16) (h5 : a5.IsWhole) (a6 : Memref sig .tc .vmem S1024x1792 .f32) (h6 : a6.IsWhole) (hc0 : ¬cond1_0 i) (hc1 : ¬cond1_1 i)
    (x0 : Vec F S1024x512 .bf16) (x1 : Vec F S512x1792 .bf16) (xs : Vec F S1024x1792 .f32) :
    sout1_B_0 c i a3 h3 a4 h4 a5 h5 a6 h6 hc0 hc1 x0 x1 xs = k1_pay2 xs x0 x1 := by
  unfold sout1_B_0
  rw [View.read_writes_junk_eq_canon]
  unfold kernelRun1_B
  dsimp only
  rw [View.canon_unit_zero (S := S1024x1792) hz2]
  simp only [View.readAt_eq_ld, h3.read_unread, h4.read_unread, h6.read_unread, View.ld_unit_zero (S := S1024x512) hz2, View.ld_unit_zero (S := S512x1792) hz2, View.ld_unit_zero (S := S1024x1792) hz2]

/-- The last chunk adds its product to the scratch too. -/
theorem sout_C (c : Dev nD) (i : grid1.Coords) (a3 : Memref sig .tc .vmem S1024x512 .bf16) (h3 : a3.IsWhole) (a4 : Memref sig .tc .vmem S512x1792 .bf16) (h4 : a4.IsWhole) (a5 : Memref sig .tc .vmem S1024x1792 .bf16) (h5 : a5.IsWhole) (a6 : Memref sig .tc .vmem S1024x1792 .f32) (h6 : a6.IsWhole) (hc0 : ¬cond1_0 i) (hc1 : cond1_1 i)
    (x0 : Vec F S1024x512 .bf16) (x1 : Vec F S512x1792 .bf16) (xs : Vec F S1024x1792 .f32) :
    sout1_C_0 c i a3 h3 a4 h4 a5 h5 a6 h6 hc0 hc1 x0 x1 xs = k1_pay2 xs x0 x1 := by
  unfold sout1_C_0
  rw [View.read_writes_junk_eq_canon]
  unfold kernelRun1_C
  dsimp only
  sl_unfold_words
  rw [View.canon_unit_zero (S := S1024x1792) hz2]
  simp only [View.readAt_eq_ld, h3.read_unread, h4.read_unread, h6.read_unread, View.ld_unit_zero (S := S1024x512) hz2, View.ld_unit_zero (S := S512x1792) hz2, View.ld_unit_zero (S := S1024x1792) hz2]

/-- And then the scratch, rounded, is the output block. -/
theorem out_C (c : Dev nD) (i : grid1.Coords) (a3 : Memref sig .tc .vmem S1024x512 .bf16) (h3 : a3.IsWhole) (a4 : Memref sig .tc .vmem S512x1792 .bf16) (h4 : a4.IsWhole) (a5 : Memref sig .tc .vmem S1024x1792 .bf16) (h5 : a5.IsWhole) (a6 : Memref sig .tc .vmem S1024x1792 .f32) (h6 : a6.IsWhole) (hc0 : ¬cond1_0 i) (hc1 : cond1_1 i)
    (x0 : Vec F S1024x512 .bf16) (x1 : Vec F S512x1792 .bf16) (xs : Vec F S1024x1792 .f32) :
    out1_C_2 c i a3 h3 a4 h4 a5 h5 a6 h6 hc0 hc1 x0 x1 xs = k1_pay3 (k1_pay2 xs x0 x1) := by
  unfold out1_C_2
  rw [View.read_writes_junk_eq_canon]
  unfold kernelRun1_C
  dsimp only
  sl_unfold_words
  rw [View.canon_unit_zero (S := S1024x1792) hz2, View.readCov_unit_zero (S := S1024x1792) _ hz2]
  simp only [View.readAt_eq_ld, h3.read_unread, h4.read_unread, h6.read_unread, View.ld_unit_zero (S := S1024x512) hz2, View.ld_unit_zero (S := S512x1792) hz2, View.ld_unit_zero (S := S1024x1792) hz2]

end Cases

/-! ## The same over the extended reals -/

theorem pay1_apply (y : S1024x1792.Idx) : (k1_pay1 (F := Ideal)) y = 0 := by
  unfold k1_pay1
  rw [shapeCast_self]
  exact Ideal.ofBits_zero_f32

theorem pay3_apply (x : Vec Ideal S1024x1792 .f32) (y : S1024x1792.Idx) : k1_pay3 x y = x y := by
  unfold k1_pay3
  rfl

/-- One chunk: what was there plus 512 products. -/
theorem pay2_apply (a : Vec Ideal S1024x1792 .f32) (x : Vec Ideal S1024x512 .bf16) (w : Vec Ideal S512x1792 .bf16) (y : S1024x1792.Idx) :
    k1_pay2 a x w y = a y + ∑ e : Fin 512, x (ix2 (⟨(y 0).val, (y 0).isLt⟩ : Fin 1024) e) * w (ix2 e (⟨(y 1).val, (y 1).isLt⟩ : Fin 1792)) := by
  unfold k1_pay2
  dsimp only
  rw [shapeCast_self, shapeCast_self, shapeCast_self]
  show a y + FloatOps.matmul (F := Ideal) dot_S1024x512_S512x1792_S1024x1792_1_0_0_1_n_n none x w (constant S1024x1792 .f32 0x00000000#32) y = _
  congr 1
  refine (Ideal.matmul_constant_zero_apply (φ₁ := .bf16) (φ₂ := .bf16) dot_S1024x512_S512x1792_S1024x1792_1_0_0_1_n_n none x w y).trans ?_
  rw [← Equiv.sum_comp (contrEquiv1 dot_S1024x512_S512x1792_S1024x1792_1_0_0_1_n_n 512 rfl rfl).symm]
  refine Finset.sum_congr rfl fun k _ => ?_
  have hk := contrEquiv1_symm_val dot_S1024x512_S512x1792_S1024x1792_1_0_0_1_n_n 512 rfl rfl k
  congr 2
  · funext a; apply Fin.ext
    match a with
    | ⟨0, _⟩ => rfl
    | ⟨1, _⟩ => exact hk
  · funext a; apply Fin.ext
    match a with
    | ⟨0, _⟩ => exact hk
    | ⟨1, _⟩ => rfl

/-! ## The chunks' sum -/

section Sum
variable (V : (c : Dev nD) → (b : Ref sig .tc) → Buf (Elt Ideal) ((c : Thread nD τ).loc b))

/-- Product number `p` of row `a` of the left operand with column `b` of the right one. -/
def prodAt (X : S12288x18944.Idx → EReal) (W : S18944x3584.Idx → EReal) (a : Fin 12288) (b : Fin 3584) (p : ℕ) : EReal :=
  X (ix2 a (Fin.ofNat 18944 p)) * W (ix2 (Fin.ofNat 18944 p) b)

/-- A row of the left operand times a column of the right one. -/
def rowCol (X : S12288x18944.Idx → EReal) (W : S18944x3584.Idx → EReal) (a : Fin 12288) (b : Fin 3584) : EReal :=
  ∑ k : Fin 18944, X (ix2 a k) * W (ix2 k b)

/-- Which blocks point `t` reads: row block `t / 74` and chunk `t % 37` on the left, chunk `t % 37` and column block
    `t / 37 % 2` on the right. -/
theorem idx_facts1 : ∀ t : Fin cfg1.N, (win1_0.index t (0 : Fin 2) = t.val / 74 ∧ win1_0.index t (1 : Fin 2) = t.val % 37)
    ∧ (win1_1.index t (0 : Fin 2) = t.val % 37 ∧ win1_1.index t (1 : Fin 2) = t.val / 37 % 2) :=
  (by decide +kernel : ∀ t : Fin grid1.N, _)

/-- A chunk of a row of the left operand, as point `t` has it. -/
theorem left_apply (c : Dev nD) (t : Fin cfg1.N) (r : Fin 1024) (e : Fin 512) (a : Fin 12288) (ha : a.val = t.val / 74 * 1024 + r.val) :
    iblk1 V c 0 t (ix2 r e) = V c main_v0 (ix2 a (Fin.ofNat 18944 (t.val % 37 * 512 + e.val))) := by
  have hr := r.isLt
  have he := e.isLt
  obtain ⟨⟨e0, e1⟩, -⟩ := idx_facts1 t
  show V c main_v0 (((cfg1.win 0).blk t).view.emb (ix2 r e)) = _
  congr 1
  funext b; apply Fin.ext
  match b with
  | ⟨0, _⟩ => show win1_0.index t (0 : Fin 2) * 1024 + 1 * r.val = a.val; omega
  | ⟨1, _⟩ => show win1_0.index t (1 : Fin 2) * 512 + 1 * e.val = (t.val % 37 * 512 + e.val) % 18944; omega

/-- A chunk of a column of the right operand, as point `t` has it. -/
theorem right_apply (c : Dev nD) (t : Fin cfg1.N) (e : Fin 512) (q : Fin 1792) (b : Fin 3584) (hb : b.val = t.val / 37 % 2 * 1792 + q.val) :
    iblk1 V c 1 t (ix2 e q) = V c main_v6 (ix2 (Fin.ofNat 18944 (t.val % 37 * 512 + e.val)) b) := by
  have hr := q.isLt
  have he := e.isLt
  obtain ⟨-, e0, e1⟩ := idx_facts1 t
  show V c main_v6 (((cfg1.win 1).blk t).view.emb (ix2 e q)) = _
  congr 1
  funext d; apply Fin.ext
  match d with
  | ⟨0, _⟩ => show win1_1.index t (0 : Fin 2) * 512 + 1 * e.val = (t.val % 37 * 512 + e.val) % 18944; omega
  | ⟨1, _⟩ => show win1_1.index t (1 : Fin 2) * 1792 + 1 * q.val = b.val; omega

/-- One chunk at point `t`: what was there plus the chunk's 512 products. -/
theorem chunk (c : Dev nD) (t : Fin cfg1.N) (acc : Vec Ideal S1024x1792 .f32) (y : S1024x1792.Idx) (a : Fin 12288) (b : Fin 3584)
    (ha : a.val = t.val / 74 * 1024 + (y 0).val) (hb : b.val = t.val / 37 % 2 * 1792 + (y 1).val) :
    k1_pay2 acc (iblk1 V c 0 t) (iblk1 V c 1 t) y
      = acc y + ∑ e ∈ Finset.range 512, prodAt (V c main_v0) (V c main_v6) a b (512 * (t.val % 37) + e) := by
  refine (pay2_apply _ _ _ _).trans ?_
  rw [Finset.sum_range]
  congr 1
  refine Finset.sum_congr rfl fun e _ => ?_
  refine (congrArg₂ (fun u v : EReal => u * v) (left_apply V c t _ e a ha) (right_apply V c t e _ b hb)).trans ?_
  unfold prodAt
  rw [Nat.mul_comm]

/-- The scratch after point `n`: the products of the chunks up to `n`'s. -/
theorem scratch_eq (c : Dev nD) : ∀ (n : ℕ) (hn : n < cfg1.N) (y : S1024x1792.Idx) (a : Fin 12288) (b : Fin 3584)
    (_ : a.val = n / 74 * 1024 + (y 0).val) (_ : b.val = n / 37 % 2 * 1792 + (y 1).val),
    (outsAt1 V c n hn).2 y = ∑ p ∈ Finset.range (512 * (n % 37 + 1)), prodAt (V c main_v0) (V c main_v6) a b p := by
  intro n
  induction n with
  | zero =>
    intro hn y a b ha hb
    rw [outsAt1_A V c ⟨0, hn⟩ rfl (by show ¬ 0 % 37 = 36; decide)]
    dsimp only
    rw [sout_A, chunk V c ⟨0, hn⟩ _ y a b ha hb, pay1_apply, zero_add]
    refine Finset.sum_congr rfl fun e _ => ?_
    show prodAt _ _ _ _ (0 + e) = _
    rw [Nat.zero_add]
  | succ n ih =>
    intro hn y a b ha hb
    rw [show 512 * ((n + 1) % 37 + 1) = 512 * ((n + 1) % 37) + 512 from rfl, Finset.sum_range_add]
    by_cases h0 : (n + 1) % 37 = 0
    · rw [outsAt1_A V c ⟨n + 1, hn⟩ h0 (by show ¬ (n + 1) % 37 = 36; omega)]
      dsimp only
      rw [sout_A, chunk V c ⟨n + 1, hn⟩ _ y a b ha hb, pay1_apply, h0]
      rfl
    · have hi := ih (Nat.lt_of_succ_lt hn) y a b (by omega) (by omega)
      have hm : n % 37 + 1 = (n + 1) % 37 := by omega
      rw [hm] at hi
      by_cases h1 : (n + 1) % 37 = 36
      · rw [outsAt1_C V c ⟨n + 1, hn⟩ h0 h1]
        dsimp only
        rw [sout_C, chunk V c ⟨n + 1, hn⟩ _ y a b ha hb]
        exact congrArg (· + _) hi
      · rw [outsAt1_B V c ⟨n + 1, hn⟩ h0 h1]
        dsimp only
        rw [sout_B, chunk V c ⟨n + 1, hn⟩ _ y a b ha hb]
        exact congrArg (· + _) hi

/-- At a point that stores the output block, the block is the scratch. -/
theorem out_eq_scratch (c : Dev nD) (t : Fin cfg1.N) (h0 : ¬t.val % 37 = 0) (h1 : t.val % 37 = 36) (y : S1024x1792.Idx) :
    (outsAt1 V c t.val t.isLt).1 y = (outsAt1 V c t.val t.isLt).2 y := by
  rw [outsAt1_C V c t h0 h1]
  dsimp only
  rw [out_C, sout_C, pay3_apply]

/-- The result array: row times column, over the whole contraction. -/
theorem G2_apply (c : Dev nD) (i : S12288x3584.Idx) :
    G2 V c i = rowCol (V c main_v0) (V c main_v6) (⟨(i 0).val, (i 0).isLt⟩ : Fin 12288) (⟨(i 1).val, (i 1).isLt⟩ : Fin 3584) := by
  have hi0 : (i 0).val < 12288 := (i 0).isLt
  have hi1 : (i 1).val < 3584 := (i 1).isLt
  have hp : pt2Of i < cfg1.N := lt_of_lt_of_eq (show 37 * (2 * ((i 0).val / 1024 - 0) + 1 * ((i 1).val / 1792 - 0)) + 36 < 888 by omega) N_1.symm
  unfold G2
  rw [dif_pos hp, ← outsAt1_sweep V c (pt2Of i) hp]
  obtain ⟨n, hn⟩ : ∃ n, n = pt2Of i := ⟨_, rfl⟩
  have hv : n = 37 * (2 * ((i 0).val / 1024 - 0) + 1 * ((i 1).val / 1792 - 0)) + 36 := hn
  have hm : n % 37 = 36 := by omega
  have key := (out_eq_scratch V c ⟨n, hn ▸ hp⟩ (by show ¬ n % 37 = 0; omega) hm (loc2Of i)).trans
    (scratch_eq V c n (hn ▸ hp) (loc2Of i) (⟨(i 0).val, hi0⟩ : Fin 12288) (⟨(i 1).val, hi1⟩ : Fin 3584)
      (show (i 0).val = n / 74 * 1024 + (i 0).val % 1024 by omega) (show (i 1).val = n / 37 % 2 * 1792 + (i 1).val % 1792 by omega))
  rw [hm] at key
  subst hn
  refine key.trans ?_
  show ∑ p ∈ Finset.range 18944, _ = _
  rw [Finset.sum_range]
  unfold rowCol
  refine Finset.sum_congr rfl fun k _ => ?_
  unfold prodAt
  have hk : Fin.ofNat 18944 k.val = k := Fin.ext (Nat.mod_eq_of_lt k.isLt)
  rw [hk]

end Sum

end Cert.KernelIdeal.Hand

end
-- ==== Proof.KernelIdeal.Result.lean ====
module

public import proofs.«01_k».proof.Proof.KernelIdeal.Run
public import proofs.«01_k».proof.Proof.KernelIdeal.DecodeValue
public import proofs.«01_k».proof.Proof.KernelIdeal.MatmulSum
public import Idealize.ShloMosaic.Lib.StableHlo.Run

/-! The kernel program's result, index by index, over the extended reals. -/

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open scoped BigOperators

/-- The dequantised weight at row `j` (an input channel), column `o` (an output channel): the table entry of the
    column's nibble times the scale of the column's group of 64, `code * scale + offset`; the scales have one factor
    for 256 consecutive groups, counted row by row. -/
def weight (w : (⟨2, ![3584, 9472]⟩ : Shape).Idx → BitVec 8) (q : (⟨2, ![3584, 296]⟩ : Shape).Idx → BitVec 8)
    (s : (⟨1, ![4144]⟩ : Shape).Idx → EReal) (z : (⟨1, ![1]⟩ : Shape).Idx → EReal) (j : Fin 3584) (o : Fin 18944) : EReal :=
  nf4At (F := Ideal) (w (ix2 j (⟨o.val / 2, by have := o.isLt; omega⟩ : Fin 9472))) (o.val % 2)
    * (FloatOps.sitofp (F := Ideal) .f32 (q (ix2 j (⟨o.val / 64, by have := o.isLt; omega⟩ : Fin 296)))
        * s (ix1 (⟨(j.val * 296 + o.val / 64) / 256, by have := o.isLt; have := j.isLt; omega⟩ : Fin 4144))
      + z (ix1 (0 : Fin 1)))

/-- The gradient at batch `b`, position `p`, channel `j`: the upstream gradient's row times the weight's row. -/
def grad (x : (⟨3, ![24, 512, 18944]⟩ : Shape).Idx → EReal) (w : (⟨2, ![3584, 9472]⟩ : Shape).Idx → BitVec 8)
    (q : (⟨2, ![3584, 296]⟩ : Shape).Idx → BitVec 8) (s : (⟨1, ![4144]⟩ : Shape).Idx → EReal) (z : (⟨1, ![1]⟩ : Shape).Idx → EReal)
    (i : (⟨3, ![24, 512, 3584]⟩ : Shape).Idx) : EReal :=
  ∑ k : Fin 18944, x (ix3 (⟨(i 0).val, (i 0).isLt⟩ : Fin 24) (⟨(i 1).val, (i 1).isLt⟩ : Fin 512) k)
    * weight w q s z (⟨(i 2).val, (i 2).isLt⟩ : Fin 3584) k

section Host
variable {F : FTy → Type} [FloatOps F]
variable (m : (ℓ : Loc nD τ sig) → Buf (Elt F) ℓ) (ρ : Dev nD → PrngReg)

/-! ## The host operations before the calls -/

theorem V1_v0 (c : Dev nD) : V1 m ρ c main_v0
    = shapeCast S12288x18944 (m ((c : Thread nD τ).loc main_arg0)) shapeCasts_S24x512x18944_S12288x18944 := by
  show StableHlo.after hostOps0 (W0 m ρ c) (Proc.devRef .tc main_v0) = _
  after_results <;> rfl

theorem V1_v1 (c : Dev nD) : V1 m ρ c main_v1
    = transpose S296x3584 [1, 0] (m ((c : Thread nD τ).loc main_arg2)) transposes_S3584x296_S296x3584_1_0 := by
  show StableHlo.after hostOps0 (W0 m ρ c) (Proc.devRef .tc main_v1) = _
  after_results <;> rfl

theorem V1_v5 (c : Dev nD) : V1 m ρ c main_v5
    = transpose S296x3584 [1, 0] (shapeCast S3584x296 (shapeCast S1060864 (broadcastInDim S4144x256 ![0] bcast_S4144_S4144x256_0
        (m ((c : Thread nD τ).loc main_arg3))) shapeCasts_S4144x256_S1060864) shapeCasts_S1060864_S3584x296) transposes_S3584x296_S296x3584_1_0 := by
  show StableHlo.after hostOps0 (W0 m ρ c) (Proc.devRef .tc main_v5) = _
  after_results <;> rfl

theorem W4_v8 (c : Dev nD) : W4 m ρ c (Proc.devRef .tc main_v8)
    = shapeCast S24x512x3584 (W3 m ρ c (Proc.devRef .tc main_v7)) shapeCasts_S12288x3584_S24x512x3584 := by
  show StableHlo.after hostOps2 (W3 m ρ c) (Proc.devRef .tc main_v8) = _
  after_results <;> rfl

/-- The left operand: the upstream gradient with its two leading axes merged. -/
theorem V1_v0_apply (c : Dev nD) (a : Fin 12288) (k : Fin 18944) (b : Fin 24) (p : Fin 512) (h : a.val = b.val * 512 + p.val) :
    V1 m ρ c main_v0 (ix2 a k) = m ((c : Thread nD τ).loc main_arg0) (ix3 b p k) := by
  rw [V1_v0]
  refine shapeCast_apply (s := S24x512x18944) _ _ _ _ ?_
  rw [Shape.rowMajor_val_two, Shape.rowMajor_val_three]
  show (b.val * 512 + p.val) * 18944 + k.val = a.val * 18944 + k.val
  rw [h]

/-- The scale codes, transposed. -/
theorem V1_v1_apply (c : Dev nD) (g : Fin 296) (j : Fin 3584) :
    V1 m ρ c main_v1 (ix2 g j) = m ((c : Thread nD τ).loc main_arg2) (ix2 j g) := by
  rw [V1_v1]
  refine transpose_apply _ _ _ _ _ fun b => ?_
  match b with
  | ⟨0, _⟩ => rfl
  | ⟨1, _⟩ => rfl

/-- The scales' factors, one for 256 consecutive groups, transposed. -/
theorem V1_v5_apply (c : Dev nD) (g : Fin 296) (j : Fin 3584) (n : Fin 4144) (h : n.val = (j.val * 296 + g.val) / 256) :
    V1 m ρ c main_v5 (ix2 g j) = m ((c : Thread nD τ).loc main_arg3) (ix1 n) := by
  have hj := j.isLt
  have hg := g.isLt
  rw [V1_v5]
  refine (transpose_apply _ _ _ _ (ix2 j g) ?_).trans ?_
  · intro b
    match b with
    | ⟨0, _⟩ => rfl
    | ⟨1, _⟩ => rfl
  refine (shapeCast_apply _ _ _ (ix1 (⟨j.val * 296 + g.val, by omega⟩ : Fin 1060864)) ?_).trans ?_
  · rw [Shape.rowMajor_val_two, Shape.rowMajor_val_one]
    rfl
  refine (shapeCast_apply _ _ _ (ix2 n (⟨(j.val * 296 + g.val) % 256, by omega⟩ : Fin 256)) ?_).trans ?_
  · rw [Shape.rowMajor_val_two, Shape.rowMajor_val_one]
    show n.val * 256 + (j.val * 296 + g.val) % 256 = j.val * 296 + g.val
    omega
  refine broadcastInDim_apply _ _ _ _ _ fun a => ?_
  match a with
  | ⟨0, _⟩ => rfl

theorem V1_arg1 (c : Dev nD) : V1 m ρ c main_arg1 = m ((c : Thread nD τ).loc main_arg1) := W1_args m ρ c main_arg1 (by decide)
theorem V1_arg4 (c : Dev nD) : V1 m ρ c main_arg4 = m ((c : Thread nD τ).loc main_arg4) := W1_args m ρ c main_arg4 (by decide)

/-! ## What the product call reads -/

theorem V2_v0 (c : Dev nD) : V2 m ρ c main_v0 = V1 m ρ c main_v0 := W2_of m ρ c main_v0 (by decide)
theorem V2_v6 (c : Dev nD) : V2 m ρ c main_v6 = decG (V1 m ρ) c := (W2_arr m ρ c 4).trans (final0 (V1 m ρ) c)
theorem W3_v7 (c : Dev nD) : W3 m ρ c (Proc.devRef .tc main_v7) = G2 (V2 m ρ) c := (W3_arr m ρ c 2).trans (final2 (V2 m ρ) c)

end Host

/-! ## The result -/

section Result
variable (m : (ℓ : Loc nD τ sig) → Buf (Elt Ideal) ℓ) (ρ : Dev nD → PrngReg)

/-- The decoded weight the product call reads. -/
theorem V2_v6_apply (c : Dev nD) (k : Fin 18944) (j : Fin 3584) :
    V2 m ρ c main_v6 (ix2 k j)
      = weight (m ((c : Thread nD τ).loc main_arg1)) (m ((c : Thread nD τ).loc main_arg2)) (m ((c : Thread nD τ).loc main_arg3))
          (m ((c : Thread nD τ).loc main_arg4)) j k := by
  have hk := k.isLt
  have hj := j.isLt
  rw [V2_v6]
  show decAt (F := Ideal) (V1 m ρ c main_arg1) (V1 m ρ c main_v1) (V1 m ρ c main_v5) (V1 m ρ c main_arg4) k j = _
  unfold decAt weight
  rw [V1_arg1, V1_arg4, V1_v1_apply,
    V1_v5_apply m ρ c _ j (⟨(j.val * 296 + k.val / 64) / 256, by omega⟩ : Fin 4144) rfl]
  rfl

/-- A row times a column is an element of the gradient when the row is the upstream gradient's and the column the weight's. -/
theorem rowCol_eq_grad (X : S12288x18944.Idx → EReal) (W : S18944x3584.Idx → EReal)
    (x : (⟨3, ![24, 512, 18944]⟩ : Shape).Idx → EReal) (w : (⟨2, ![3584, 9472]⟩ : Shape).Idx → BitVec 8)
    (q : (⟨2, ![3584, 296]⟩ : Shape).Idx → BitVec 8) (s : (⟨1, ![4144]⟩ : Shape).Idx → EReal) (z : (⟨1, ![1]⟩ : Shape).Idx → EReal)
    (i : (⟨3, ![24, 512, 3584]⟩ : Shape).Idx) (a : Fin 12288) (b : Fin 3584)
    (hx : ∀ k, X (ix2 a k) = x (ix3 (⟨(i 0).val, (i 0).isLt⟩ : Fin 24) (⟨(i 1).val, (i 1).isLt⟩ : Fin 512) k))
    (hw : ∀ k, W (ix2 k b) = weight w q s z (⟨(i 2).val, (i 2).isLt⟩ : Fin 3584) k) : rowCol X W a b = grad x w q s z i := by
  unfold rowCol grad
  exact Finset.sum_congr rfl fun k _ => by rw [hx, hw]

/-- The program's result is the gradient. -/
theorem result_apply (c : Dev nD) (i : S24x512x3584.Idx) :
    W4 m ρ c (Proc.devRef .tc main_v8) i
      = grad (m ((c : Thread nD τ).loc main_arg0)) (m ((c : Thread nD τ).loc main_arg1)) (m ((c : Thread nD τ).loc main_arg2))
          (m ((c : Thread nD τ).loc main_arg3)) (m ((c : Thread nD τ).loc main_arg4)) i := by
  have h0 : (i 0).val < 24 := (i 0).isLt
  have h1 : (i 1).val < 512 := (i 1).isLt
  have h2 : (i 2).val < 3584 := (i 2).isLt
  rw [W4_v8, W3_v7]
  refine (shapeCast_apply _ _ _ (ix2 (⟨(i 0).val * 512 + (i 1).val, by omega⟩ : Fin 12288) (⟨(i 2).val, h2⟩ : Fin 3584)) ?_).trans ?_
  · rw [Shape.rowMajor_val_two, Shape.rowMajor_val_three]
    rfl
  refine (G2_apply _ c _).trans (rowCol_eq_grad _ _ _ _ _ _ _ i _ _ (fun k => ?_) fun k => V2_v6_apply m ρ c k _)
  rw [V2_v0]
  exact V1_v0_apply m ρ c _ k _ _ rfl

end Result

end Cert.KernelIdeal.Hand

end
-- ==== Proof.Reference.Value.lean ====
module

public import proofs.«01_k».proof.Proof.Gen.ReferenceIdeal.Read
public import proofs.«01_k».proof.Proof.KernelIdeal.Result

/-! The reference's result, index by index, over the extended reals: the same gradient as the kernel program's. -/

@[expose] public section

set_option maxRecDepth 16384

noncomputable section

namespace Cert.ReferenceIdeal.Hand

open Cert.ReferenceIdeal Cert.ReferenceIdeal.Gen Cert.ReferenceIdeal.Read
open Cert.KernelIdeal.Hand (nf4Tree nf4At half spread weight grad)
open Idealize.ShloMosaic Idealize.ShloMosaic.TcCoe Idealize.ShloMosaic.ValueIdx
open scoped BigOperators

/-! ## The nibble's bits -/

/-- Nibble `p` of a packed byte as the reference takes it: the mask for the low one, the shift for the high one. -/
def nib (w : BitVec 8) (p : Nat) : BitVec 32 :=
  if p = 0 then IntOp.andi (w.setWidth 32) 15#32 else IntOp.shrsi .host (w.setWidth 32) 4#32

/-- Bit `t` of the nibble, as the reference tests it. -/
def bitAt (w : BitVec 8) (p : Nat) (t : BitVec 32) : BitVec 1 :=
  IntOp.cmpi .eq (IntOp.andi (IntOp.shrsi .host (nib w p) t) 1#32) 1#32

/-- The kernel tests the same four bits of the same nibble, in its 16-bit half of the spread word. -/
theorem bits_eq (w : BitVec 8) (p : Fin 2) :
    bitAt w p.val 0#32 = IntOp.cmpi .ne (IntOp.andi (half w p.val) 1#16) 0#16
    ∧ bitAt w p.val 1#32 = IntOp.cmpi .ne (IntOp.andi (half w p.val) 2#16) 0#16
    ∧ bitAt w p.val 2#32 = IntOp.cmpi .ne (IntOp.andi (half w p.val) 4#16) 0#16
    ∧ bitAt w p.val 3#32 = IntOp.cmpi .ne (IntOp.andi (half w p.val) 8#16) 0#16 := by
  have h : ∀ (n : Fin 256) (p : Fin 2),
      bitAt (BitVec.ofFin n) p.val 0#32 = IntOp.cmpi .ne (IntOp.andi (half (BitVec.ofFin n) p.val) 1#16) 0#16
      ∧ bitAt (BitVec.ofFin n) p.val 1#32 = IntOp.cmpi .ne (IntOp.andi (half (BitVec.ofFin n) p.val) 2#16) 0#16
      ∧ bitAt (BitVec.ofFin n) p.val 2#32 = IntOp.cmpi .ne (IntOp.andi (half (BitVec.ofFin n) p.val) 4#16) 0#16
      ∧ bitAt (BitVec.ofFin n) p.val 3#32 = IntOp.cmpi .ne (IntOp.andi (half (BitVec.ofFin n) p.val) 8#16) 0#16 := by
    decide +kernel
  exact h w.toFin p

variable {F : FTy → Type} [FloatOps F]

/-! ## The table entry -/

/-- The unpacked codes: column `o` holds nibble `o % 2` of the byte at column `o / 2`. -/
theorem code_apply (x1 : (⟨S3584x9472, .i8⟩ : BufTy).Contents (Elt F)) (i : S3584x18944.Idx) (k : S3584x9472.Idx)
    (hk0 : (k 0).val = (i 0).val) (hk1 : (k 1).val = (i 1).val / 2) :
    val_main_v19 (F := F) x1 i = nib (x1 k) ((i 1).val % 2) := by
  have h0 : (i 0).val < 3584 := (i 0).isLt
  have h1 : (i 1).val < 18944 := (i 1).isLt
  rw [val_main_v19_apply]
  unfold val_main_v18 nib
  by_cases hp : (i 1).val % 2 = 0
  · rw [if_pos hp]
    refine (concatenate_pair_apply_left (s₁ := S3584x9472x1) (s₂ := S3584x9472x1) _ _ _ _ (idx_main_v19 i) rfl (ix3 (k 0) (k 1) (0 : Fin 1)) ?_).trans ?_
    · intro b
      match b with
      | ⟨0, _⟩ => show (k 0).val = ((i 0).val * 18944 + (i 1).val) / 18944; omega
      | ⟨1, _⟩ => show (k 1).val = ((i 0).val * 18944 + (i 1).val) / 2 % 9472; omega
      | ⟨2, _⟩ => show 0 = ((i 0).val * 18944 + (i 1).val) % 2; omega
    · rw [val_main_v16_apply, val_main_v13_apply, val_main_v12_apply, val_main_c_apply]
      have e : idx_main_v16 (ix3 (k 0) (k 1) (0 : Fin 1)) = k := funext fun b => by
        match b with
        | ⟨0, _⟩ => rfl
        | ⟨1, _⟩ => rfl
      rw [e]
      rfl
  · rw [if_neg hp]
    refine (concatenate_pair_apply_right (s₁ := S3584x9472x1) (s₂ := S3584x9472x1) _ _ _ _ (idx_main_v19 i) rfl rfl (ix3 (k 0) (k 1) (0 : Fin 1)) ?_ ?_).trans ?_
    · intro b hb
      match b with
      | ⟨0, _⟩ => show (k 0).val = ((i 0).val * 18944 + (i 1).val) / 18944; omega
      | ⟨1, _⟩ => show (k 1).val = ((i 0).val * 18944 + (i 1).val) / 2 % 9472; omega
      | ⟨2, _⟩ => exact absurd rfl hb
    · show 0 + 1 = ((i 0).val * 18944 + (i 1).val) % 2
      omega
    · rw [val_main_v17_apply, val_main_v15_apply, val_main_v14_apply, val_main_c_0_apply]
      have e : idx_main_v17 (ix3 (k 0) (k 1) (0 : Fin 1)) = k := funext fun b => by
        match b with
        | ⟨0, _⟩ => rfl
        | ⟨1, _⟩ => rfl
      rw [e]
      rfl

/-- The reference's nested selections are the table read by the four bits. -/
theorem tree_apply (x1 : (⟨S3584x9472, .i8⟩ : BufTy).Contents (Elt F)) (i : S3584x18944.Idx) :
    val_main_v58 (F := F) x1 i = nf4Tree (val_main_v25 (F := F) x1 i) (val_main_v31 (F := F) x1 i)
      (val_main_v37 (F := F) x1 i) (val_main_v43 (F := F) x1 i) := by
  rw [val_main_v58_apply, val_main_v50_apply, val_main_v57_apply, val_main_v46_apply, val_main_v49_apply,
    val_main_v53_apply, val_main_v56_apply, val_main_v44_apply, val_main_v45_apply, val_main_v47_apply,
    val_main_v48_apply, val_main_v51_apply, val_main_v52_apply, val_main_v54_apply, val_main_v55_apply,
    val_main_call0_v0_apply, val_main_call0_v1_apply, val_main_call1_v0_apply, val_main_call1_v1_apply,
    val_main_call3_v0_apply, val_main_call3_v1_apply, val_main_call4_v0_apply, val_main_call4_v1_apply,
    val_main_call7_v0_apply, val_main_call7_v1_apply, val_main_call8_v0_apply, val_main_call8_v1_apply,
    val_main_call10_v0_apply, val_main_call10_v1_apply, val_main_call11_v0_apply, val_main_call11_v1_apply]
  rfl

theorem table_apply (x1 : (⟨S3584x9472, .i8⟩ : BufTy).Contents (Elt F)) (i : S3584x18944.Idx) (k : S3584x9472.Idx)
    (hk0 : (k 0).val = (i 0).val) (hk1 : (k 1).val = (i 1).val / 2) :
    val_main_v58 (F := F) x1 i = nf4At (x1 k) ((i 1).val % 2) := by
  obtain ⟨b0, b1, b2, b3⟩ := bits_eq (x1 k) ⟨(i 1).val % 2, Nat.mod_lt _ (by decide)⟩
  have c := code_apply x1 i k hk0 hk1
  rw [tree_apply]
  unfold nf4At
  rw [← b0, ← b1, ← b2, ← b3]
  rw [val_main_v25_apply, val_main_v23_apply, val_main_v21_apply, val_main_v20_apply, val_main_v22_apply, val_main_v24_apply,
    val_main_v31_apply, val_main_v29_apply, val_main_v27_apply, val_main_v26_apply, val_main_v28_apply, val_main_v30_apply,
    val_main_v37_apply, val_main_v35_apply, val_main_v33_apply, val_main_v32_apply, val_main_v34_apply, val_main_v36_apply,
    val_main_v43_apply, val_main_v41_apply, val_main_v39_apply, val_main_v38_apply, val_main_v40_apply, val_main_v42_apply, c]
  rfl

/-! ## The scale -/

theorem offset_apply (x4 : (⟨S1, .f32⟩ : BufTy).Contents (Elt F)) (i : S_.Idx) :
    val_main_v6 (F := F) x4 i = x4 (ix1 (0 : Fin 1)) := by
  unfold val_main_v6
  refine shapeCast_apply x4 shapeCasts_S1_S_ i (ix1 (0 : Fin 1)) ?_
  show (S1.rowMajor (ix1 (0 : Fin 1))).val = (S_.rowMajor i).val
  have a := (S_.rowMajor i).isLt
  have b := (S1.rowMajor (ix1 (0 : Fin 1))).isLt
  have ea : S_.numel = 1 := by decide
  have eb : S1.numel = 1 := by decide
  omega

/-- The dequantised scale at row `j`, group `g`, over the extended reals. -/
theorem scale_apply (x2 : (⟨S3584x296, .i8⟩ : BufTy).Contents (Elt Ideal)) (x3 : (⟨S4144, .f32⟩ : BufTy).Contents (Elt Ideal))
    (x4 : (⟨S1, .f32⟩ : BufTy).Contents (Elt Ideal)) (i : S3584x296.Idx) (k : S4144.Idx)
    (hk : (k 0).val = ((i 0).val * 296 + (i 1).val) / 256) :
    @Eq EReal (val_main_v10 (F := Ideal) x2 x3 x4 i)
      ((FloatOps.sitofp (F := Ideal) .f32 (x2 i) : EReal) * (x3 k : EReal) + (x4 (ix1 (0 : Fin 1)) : EReal)) := by
  have h0 : (i 0).val < 3584 := (i 0).isLt
  have h1 : (i 1).val < 296 := (i 1).isLt
  rw [val_main_v10_apply, val_main_v9_apply, val_main_v8_apply, val_main_v5_apply, val_main_v2_apply, val_main_v1_apply,
    val_main_v0_apply, val_main_v4_apply, val_main_v3_apply, val_main_v7_apply, offset_apply]
  have e : idx_main_v0 (idx_main_v9 i) = i := funext fun b => Fin.ext (by
    match b with
    | ⟨0, _⟩ => show (((i 0).val * 296 + (i 1).val) / 256 * 256 + ((i 0).val * 296 + (i 1).val) % 256) / 296 = (i 0).val; omega
    | ⟨1, _⟩ => show (((i 0).val * 296 + (i 1).val) / 256 * 256 + ((i 0).val * 296 + (i 1).val) % 256) % 296 = (i 1).val; omega)
  have e3 : idx_main_v3 (idx_main_v4 (idx_main_v9 i)) = k := funext fun b => Fin.ext (by
    match b with
    | ⟨0, _⟩ => exact hk.symm)
  rw [e, e3]
  have es : (FloatOps.sitofp (F := Ideal) .f32 ((x2 i : BitVec 8).signExtend 32) : EReal) = FloatOps.sitofp (F := Ideal) .f32 (x2 i : BitVec 8) := by
    show ((((x2 i : BitVec 8).signExtend 32).toInt : ℝ) : EReal) = (((x2 i : BitVec 8).toInt : ℝ) : EReal)
    rw [BitVec.toInt_signExtend_of_le (by decide)]
  show (FloatOps.sitofp (F := Ideal) .f32 ((x2 i : BitVec 8).signExtend 32) : EReal) * _ + _ = _
  rw [es]

/-! ## The weight and the result -/

theorem weight_apply (x1 : (⟨S3584x9472, .i8⟩ : BufTy).Contents (Elt Ideal)) (x2 : (⟨S3584x296, .i8⟩ : BufTy).Contents (Elt Ideal))
    (x3 : (⟨S4144, .f32⟩ : BufTy).Contents (Elt Ideal)) (x4 : (⟨S1, .f32⟩ : BufTy).Contents (Elt Ideal)) (j : Fin 3584) (o : Fin 18944)
    (i : S3584x18944.Idx) (hi0 : (i 0).val = j.val) (hi1 : (i 1).val = o.val) :
    @Eq EReal (val_main_v63 (F := Ideal) x1 x2 x3 x4 i) (weight x1 x2 x3 x4 j o) := by
  have hj := j.isLt
  have ho := o.isLt
  have hlt : o.val / 64 < 296 := by omega
  rw [val_main_v63_apply, val_main_v62_apply, val_main_v59_apply, val_main_v61_apply, val_main_v60_apply]
  have e : idx_main_v59 (idx_main_v63 i) = i := funext fun b => Fin.ext (by
    match b with
    | ⟨0, _⟩ =>
      show ((((i 0).val * 18944 + (i 1).val) / 18944 * 296 + ((i 0).val * 18944 + (i 1).val) / 64 % 296) * 64 + ((i 0).val * 18944 + (i 1).val) % 64) / 18944 = (i 0).val
      omega
    | ⟨1, _⟩ =>
      show ((((i 0).val * 18944 + (i 1).val) / 18944 * 296 + ((i 0).val * 18944 + (i 1).val) / 64 % 296) * 64 + ((i 0).val * 18944 + (i 1).val) % 64) % 18944 = (i 1).val
      omega)
  have eg : idx_main_v60 (idx_main_v61 (idx_main_v63 i)) = ix2 j (⟨o.val / 64, hlt⟩ : Fin 296) := funext fun b => Fin.ext (by
    match b with
    | ⟨0, _⟩ => show ((i 0).val * 18944 + (i 1).val) / 18944 = j.val; omega
    | ⟨1, _⟩ => show ((i 0).val * 18944 + (i 1).val) / 64 % 296 = o.val / 64; omega)
  rw [e, eg]
  rw [table_apply x1 i (ix2 j (⟨o.val / 2, by omega⟩ : Fin 9472)) hi0.symm (by show o.val / 2 = (i 1).val / 2; rw [hi1]), hi1]
  unfold weight
  exact congrArg (fun v : EReal => nf4At (F := Ideal) (x1 (ix2 j (⟨o.val / 2, by omega⟩ : Fin 9472))) (o.val % 2) * v)
    (scale_apply x2 x3 x4 (ix2 j (⟨o.val / 64, hlt⟩ : Fin 296)) (ix1 (⟨(j.val * 296 + o.val / 64) / 256, by omega⟩ : Fin 4144)) rfl)

/-- The reference's result is the gradient. -/
theorem result_apply (x0 : (⟨S24x512x18944, .bf16⟩ : BufTy).Contents (Elt Ideal)) (x1 : (⟨S3584x9472, .i8⟩ : BufTy).Contents (Elt Ideal))
    (x2 : (⟨S3584x296, .i8⟩ : BufTy).Contents (Elt Ideal)) (x3 : (⟨S4144, .f32⟩ : BufTy).Contents (Elt Ideal))
    (x4 : (⟨S1, .f32⟩ : BufTy).Contents (Elt Ideal)) (i : S24x512x3584.Idx) :
    @Eq EReal (val_main_v65 (F := Ideal) x0 x1 x2 x3 x4 i) (grad x0 x1 x2 x3 x4 i) := by
  rw [val_main_v65_apply]
  refine (val_main_v64_apply x0 x1 x2 x3 x4 i).trans ?_
  unfold grad
  refine Finset.sum_congr rfl fun k _ => congrArg₂ (fun u v : EReal => u * v) (congrArg x0 (funext fun b => ?_)) ?_
  · match b with
    | ⟨0, _⟩ => rfl
    | ⟨1, _⟩ => rfl
    | ⟨2, _⟩ => rfl
  · exact weight_apply x1 x2 x3 x4 _ k _ rfl rfl

end Cert.ReferenceIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Run
public import proofs.«01_k».proof.Proof.KernelIdeal.Run
public import proofs.«01_k».proof.Proof.KernelIdeal.Result
public import proofs.«01_k».proof.Proof.Reference.Value
public import Idealize.ShloMosaic.Adequacy
public import Idealize.ShloMosaic.Init
public import Idealize.ShloMosaic.Lib.Quiescent

/-! The claims: the three programs run and leave their arguments alone, and over the extended reals the kernel program
    and the reference end with the same gradient (`Cert.KernelIdeal.Hand.grad`). -/

@[expose] public section

noncomputable section

namespace Cert.Proof

open Idealize.ShloMosaic Idealize.SL.Sem
open Cert.KernelIdeal.Hand (grad)

/-- The reference's frame: its run leaves the arguments alone, and it has no semaphore to leave raised. -/
theorem referenceFrame : Cert.quiescent_ReferenceIdeal (hReferenceIdeal := Cert.ReferenceIdeal.Gen.facts) := fun m g _ =>
  (θ_run _ _ _).mono (fun r h => ⟨fun c => (h c).2, funext fun s => sem_eq_zero_of_no_sems (by decide) r.2 ▸ rfl⟩)
    (Cert.ReferenceIdeal.Value.run (F := Ideal) m g)

/-- The gradient of the arguments the kernel program is launched on. -/
def value (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v8) :=
  fun i => grad (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) i

/-- Both programs end with the gradient. -/
theorem equalResults : Cert.algebraic_KernelIdeal_ReferenceIdeal (hKernelIdeal := Cert.KernelIdeal.Gen.facts)
    (hReferenceIdeal := Cert.ReferenceIdeal.Gen.facts) := fun m g m' g' _ hm =>
  ⟨value m,
    (θ_run _ _ _).mono (fun r h c =>
      ⟨(h.1 c _ (Cert.KernelIdeal.Hand.mem_uc Cert.KernelIdeal.main_v8 (by decide))).trans
          (funext fun i => Cert.KernelIdeal.Hand.result_apply m g c i),
       (h.1 c _ (Cert.KernelIdeal.Hand.mem_uc Cert.KernelIdeal.main_arg0 (by decide))).trans (Cert.KernelIdeal.Hand.W4_main_arg0 m g c),
       (h.1 c _ (Cert.KernelIdeal.Hand.mem_uc Cert.KernelIdeal.main_arg1 (by decide))).trans (Cert.KernelIdeal.Hand.W4_main_arg1 m g c),
       (h.1 c _ (Cert.KernelIdeal.Hand.mem_uc Cert.KernelIdeal.main_arg2 (by decide))).trans (Cert.KernelIdeal.Hand.W4_main_arg2 m g c),
       (h.1 c _ (Cert.KernelIdeal.Hand.mem_uc Cert.KernelIdeal.main_arg3 (by decide))).trans (Cert.KernelIdeal.Hand.W4_main_arg3 m g c),
       (h.1 c _ (Cert.KernelIdeal.Hand.mem_uc Cert.KernelIdeal.main_arg4 (by decide))).trans (Cert.KernelIdeal.Hand.W4_main_arg4 m g c)⟩)
      (Cert.KernelIdeal.Hand.run_all (F := Ideal) m g),
    (θ_run _ _ _).mono (fun r h c => ⟨(h c).1.trans (by
        obtain ⟨h0, h1, h2, h3, h4⟩ := hm c
        refine (Cert.ReferenceIdeal.Read.val_main_v65_eq m' c).trans ?_
        rw [h0, h1, h2, h3, h4]
        exact funext fun i => Cert.ReferenceIdeal.Hand.result_apply _ _ _ _ _ i), (h c).2⟩)
      (Cert.ReferenceIdeal.Value.run (F := Ideal) m' g')⟩

theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g, referenceFrame, trivial, equalResults⟩

end Cert.Proof

end
